-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_rows_far_apart [hPre_first_rows_far_apart : Cert.Pre_first_rows_far_apart.Facts] (m : (ℓ : Loc Cert.KernelIdeal.nD Cert.KernelIdeal.τ Cert.KernelIdeal.sig) → Buf (Elt Ideal) ℓ) : Prop :=
  ∀ c : Dev Cert.KernelIdeal.nD,
    (Cert.Pre_first_rows_far_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_rows_far_apart [hPre_first_rows_far_apart : Cert.Pre_first_rows_far_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_rows_far_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_first_rows_far_apart [hKernelIdeal : Cert.KernelIdeal.Facts] [hPre_first_rows_far_apart : Cert.Pre_first_rows_far_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_rows_far_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_first_rows_far_apart [hReferenceIdeal : Cert.ReferenceIdeal.Facts] [hPre_first_rows_far_apart : Cert.Pre_first_rows_far_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_rows_far_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.sign_bit.Statement Cert.KernelIdeal.S8x128 .f32
  ∧ IdealRules.sign_bit.Statement Cert.KernelIdeal.S100x10 .f32

def algebraic_KernelIdeal_ReferenceIdeal_pre_first_rows_far_apart [hKernelIdeal : Cert.KernelIdeal.Facts] [hReferenceIdeal : Cert.ReferenceIdeal.Facts] [hPre_first_rows_far_apart : Cert.Pre_first_rows_far_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_rows_far_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_first_rows_far_apart : Cert.Pre_first_rows_far_apart.Facts),
    quiescent_Kernel (hKernel := hKernel)
    ∧ quiescent_KernelIdeal (hKernelIdeal := hKernelIdeal)
    ∧ quiescent_KernelIdeal_pre_first_rows_far_apart (hKernelIdeal := hKernelIdeal) (hPre_first_rows_far_apart := hPre_first_rows_far_apart)
    ∧ quiescent_ReferenceIdeal (hReferenceIdeal := hReferenceIdeal)
    ∧ quiescent_ReferenceIdeal_pre_first_rows_far_apart (hReferenceIdeal := hReferenceIdeal) (hPre_first_rows_far_apart := hPre_first_rows_far_apart)
    ∧ preserves_Kernel_KernelIdeal
    ∧ algebraic_KernelIdeal_ReferenceIdeal_pre_first_rows_far_apart (hKernelIdeal := hKernelIdeal) (hReferenceIdeal := hReferenceIdeal) (hPre_first_rows_far_apart := hPre_first_rows_far_apart)
-- ==== Pre_first_rows_far_apart.lean ====
abbrev S100x256 : Shape := ⟨2, ![100, 256]⟩
abbrev S512x10 : Shape := ⟨2, ![512, 10]⟩
abbrev S512 : Shape := ⟨1, ![512]⟩
abbrev S10x512 : Shape := ⟨2, ![10, 512]⟩
abbrev S10 : Shape := ⟨1, ![10]⟩
abbrev S_ : Shape := ⟨0, ![]⟩
abbrev S100 : Shape := ⟨1, ![100]⟩
abbrev S100x1 : Shape := ⟨2, ![100, 1]⟩
abbrev S1x100 : Shape := ⟨2, ![1, 100]⟩
abbrev S100x100 : Shape := ⟨2, ![100, 100]⟩
abbrev S256x100 : Shape := ⟨2, ![256, 100]⟩
abbrev S10x100 : Shape := ⟨2, ![10, 100]⟩

class Facts : Prop where
  reducesTo_S100x256_S100_d1 : S100x256.ReducesTo [1] S100
  h_S_ : 0 < S_.numel
  bcast_S100_S100x1_0 : S100.BroadcastsInDim S100x1 (![0] : Fin 1 → Fin S100x1.rank)
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  transposes_S100x256_S256x100_1_0 : S100x256.Transposes [1, 0] S256x100
  bcast_S_S100x100 : S_.BroadcastsInDim S100x100 (![] : Fin 0 → Fin S100x100.rank)
  slices_S100x100_S10x100_0_0 : S100x100.Slices ![0, 0] S10x100
  bcast_S_S10x100 : S_.BroadcastsInDim S10x100 (![] : Fin 0 → Fin S10x100.rank)
  reducesTo_S10x100_S_d0_1 : S10x100.ReducesTo [0, 1] S_
  dot_S100x256_S256x100_S100x100_1_0_0_1_n_n_wf : DotDims.WF S100x256 S256x100 S100x100 [1] [0] [0] [1] [] []

variable [Facts]

def dot_S100x256_S256x100_S100x100_1_0_0_1_n_n : DotDims S100x256 S256x100 S100x100 where
  lhsContracting := [1]
  rhsContracting := [0]
  lhsNonContracting := [0]
  rhsNonContracting := [1]
  lhsBatch := []
  rhsBatch := []
  wf := dot_S100x256_S256x100_S100x100_1_0_0_1_n_n_wf
def fn_part1 {F : FTy → Type} [FloatOps F] (main_v17 : IVec S10x100 1) (main_v18 : IVec S10x100 32) (main_v19 : IVec S10x100 32) : IVec S_ 1 :=
  let main_c : IVec S_ 32 := constantI S_ 32 0#32
  let main_v20 : IVec S10x100 32 := broadcastInDim S10x100 ![] bcast_S_S10x100 main_c
  let main_v21 : IVec S10x100 32 := addi main_v18 main_v20
  let main_v22 : IVec S10x100 1 := cmpi .eq main_v21 main_v19
  let main_v23 : IVec S10x100 1 := ori main_v17 main_v22
  let main_c_3 : IVec S_ 1 := constantI S_ 1 1#1
  let main_v24 : IVec S_ 1 := (fun x v => Host.reduce IntOp.andi x v reducesTo_S10x100_S_d0_1 h_S_) main_v23 main_c_3
  main_v24

def fn {F : FTy → Type} [FloatOps F] (main_arg0 : FVec F S100x256 .f32) (main_arg1 : FVec F S512x10 .f32) (main_arg2 : FVec F S512 .f32) (main_arg3 : FVec F S10x512 .f32) (main_arg4 : FVec F S10 .f32) : IVec S_ 1 :=
  let main_v0 : FVec F S100x256 .f32 := mulf main_arg0 main_arg0
  let main_cst : FVec F S_ .f32 := constant S_ .f32 0x00000000#32
  let main_v1 : FVec F S100 .f32 := (fun x v => Host.reduceAdd x v reducesTo_S100x256_S100_d1 h_S_) main_v0 main_cst
  let main_v2 : FVec F S100x1 .f32 := broadcastInDim S100x1 ![0] bcast_S100_S100x1_0 main_v1
  let main_v3 : FVec F S1x100 .f32 := broadcastInDim S1x100 ![1] bcast_S100_S1x100_1 main_v1
  let main_v4 : FVec F S100x100 .f32 := broadcastInDim S100x100 ![0, 1] bcast_S100x1_S100x100_0_1 main_v2
  let main_v5 : FVec F S100x100 .f32 := broadcastInDim S100x100 ![0, 1] bcast_S1x100_S100x100_0_1 main_v3
  let main_v6 : FVec F S100x100 .f32 := addf main_v4 main_v5
  let main_v7 : FVec F S256x100 .f32 := (transpose S256x100 [1, 0] · transposes_S100x256_S256x100_1_0) main_arg0
  let main_v8 : FVec F S100x100 .f32 := (fun l r => Host.dotGeneral dot_S100x256_S256x100_S100x100_1_0_0_1_n_n none l r) main_arg0 main_v7
  let main_cst_0 : FVec F S_ .f32 := constant S_ .f32 0x40000000#32
  let main_v9 : FVec F S100x100 .f32 := broadcastInDim S100x100 ![] bcast_S_S100x100 main_cst_0
  let main_v10 : FVec F S100x100 .f32 := mulf main_v9 main_v8
  let main_v11 : FVec F S100x100 .f32 := subf main_v6 main_v10
  let main_cst_1 : FVec F S_ .f32 := constant S_ .f32 0x00000000#32
  let main_v12 : FVec F S100x100 .f32 := broadcastInDim S100x100 ![] bcast_S_S100x100 main_cst_1
  let main_v13 : FVec F S100x100 .f32 := maximumf main_v11 main_v12
  let main_v14 : FVec F S100x100 .f32 := Host.sqrt main_v13
  let main_v15 : FVec F S10x100 .f32 := (extractStridedSlice S10x100 ![0, 0] · slices_S100x100_S10x100_0_0) main_v14
  let main_cst_2 : FVec F S_ .f32 := constant S_ .f32 0x3F3A29C7#32
  let main_v16 : FVec F S10x100 .f32 := broadcastInDim S10x100 ![] bcast_S_S10x100 main_cst_2
  let main_v17 : IVec S10x100 1 := cmpf .ogt main_v15 main_v16
  let main_v18 : IVec S10x100 32 := iotaInDim S10x100 32 0
  let main_v19 : IVec S10x100 32 := iotaInDim S10x100 32 1
  fn_part1 (F := F) main_v17 main_v18 main_v19
-- ==== Kernel.lean ====
abbrev S100x256 : Shape := ⟨2, ![100, 256]⟩
abbrev S512x10 : Shape := ⟨2, ![512, 10]⟩
abbrev S512 : Shape := ⟨1, ![512]⟩
abbrev S10x512 : Shape := ⟨2, ![10, 512]⟩
abbrev S10 : Shape := ⟨1, ![10]⟩
abbrev S1x512 : Shape := ⟨2, ![1, 512]⟩
abbrev S1x10 : Shape := ⟨2, ![1, 10]⟩
abbrev S10x100 : Shape := ⟨2, ![10, 100]⟩
abbrev S5 : Shape := ⟨1, ![5]⟩
abbrev S1 : Shape := ⟨1, ![1]⟩
abbrev S_ : Shape := ⟨0, ![]⟩
abbrev S8x128 : Shape := ⟨2, ![8, 128]⟩
abbrev S100x128 : Shape := ⟨2, ![100, 128]⟩
abbrev S128x100 : Shape := ⟨2, ![128, 100]⟩
abbrev S8x100 : Shape := ⟨2, ![8, 100]⟩
abbrev S4x100 : Shape := ⟨2, ![4, 100]⟩
abbrev S6x100 : Shape := ⟨2, ![6, 100]⟩
abbrev S2x100 : Shape := ⟨2, ![2, 100]⟩
abbrev S7x100 : Shape := ⟨2, ![7, 100]⟩
abbrev S1x100 : Shape := ⟨2, ![1, 100]⟩
abbrev S256x100 : Shape := ⟨2, ![256, 100]⟩
abbrev S100x100 : Shape := ⟨2, ![100, 100]⟩
abbrev S100 : Shape := ⟨1, ![100]⟩
abbrev S1x28 : Shape := ⟨2, ![1, 28]⟩
abbrev S1x128 : Shape := ⟨2, ![1, 128]⟩
abbrev S8x128x1 : Shape := ⟨3, ![8, 128, 1]⟩
abbrev S100x10 : Shape := ⟨2, ![100, 10]⟩
abbrev S100x512 : Shape := ⟨2, ![100, 512]⟩
abbrev S10x1 : Shape := ⟨2, ![10, 1]⟩

abbrev nBuf : Space → Nat
  | .hbm => 9
  | .vmem => 6
  | .smem => 0
  | _ => 0

abbrev bufTy : (tb : Table) → Fin (tcTables nBuf tb) → BufTy
  | .hbm, ⟨0, _⟩ => ⟨S100x256, .f32⟩
  | .hbm, ⟨1, _⟩ => ⟨S512x10, .f32⟩
  | .hbm, ⟨2, _⟩ => ⟨S512, .f32⟩
  | .hbm, ⟨3, _⟩ => ⟨S10x512, .f32⟩
  | .hbm, ⟨4, _⟩ => ⟨S10, .f32⟩
  | .hbm, ⟨5, _⟩ => ⟨S1x512, .f32⟩
  | .hbm, ⟨6, _⟩ => ⟨S1x10, .f32⟩
  | .hbm, ⟨7, _⟩ => ⟨S10x100, .f32⟩
  | .hbm, ⟨8, _⟩ => ⟨S100x10, .f32⟩
  | .local _ .vmem, ⟨0, _⟩ => ⟨S10x100, .f32⟩
  | .local _ .vmem, ⟨1, _⟩ => ⟨S100x256, .f32⟩
  | .local _ .vmem, ⟨2, _⟩ => ⟨S512x10, .f32⟩
  | .local _ .vmem, ⟨3, _⟩ => ⟨S1x512, .f32⟩
  | .local _ .vmem, ⟨4, _⟩ => ⟨S10x512, .f32⟩
  | .local _ .vmem, ⟨5, _⟩ => ⟨S1x10, .f32⟩
  | _, _ => ⟨S100x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0

abbrev nD : Nat := 1
abbrev τ : Topo := Topo.v7x

variable {F : FTy → Type} [BitOps F]

abbrev grid0 : Pipeline.Grid := .none

abbrev stage0_0 : Fin 1 → Memref sig .tc .vmem S10x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F]
-- ==== ReferenceIdeal.lean ====
abbrev S100x256 : Shape := ⟨2, ![100, 256]⟩
abbrev S512x10 : Shape := ⟨2, ![512, 10]⟩
abbrev S512 : Shape := ⟨1, ![512]⟩
abbrev S10x512 : Shape := ⟨2, ![10, 512]⟩
abbrev S10 : Shape := ⟨1, ![10]⟩
abbrev S_ : Shape := ⟨0, ![]⟩
abbrev S100 : Shape := ⟨1, ![100]⟩
abbrev S100x1 : Shape := ⟨2, ![100, 1]⟩
abbrev S1x100 : Shape := ⟨2, ![1, 100]⟩
abbrev S100x100 : Shape := ⟨2, ![100, 100]⟩
abbrev S256x100 : Shape := ⟨2, ![256, 100]⟩
abbrev S1x1 : Shape := ⟨2, ![1, 1]⟩
abbrev S100x10 : Shape := ⟨2, ![100, 10]⟩
abbrev S100x512 : Shape := ⟨2, ![100, 512]⟩
abbrev S1x512 : Shape := ⟨2, ![1, 512]⟩
abbrev S1x10 : Shape := ⟨2, ![1, 10]⟩

abbrev nBuf : Space → Nat
  | .hbm => 294
  | .vmem => 0
  | .smem => 0
  | _ => 0

abbrev hbmTy0_0 (i : Nat) : BufTy := match i % 128 with
  | 0 => ⟨S100x256, .f32⟩
  | 1 => ⟨S512x10, .f32⟩
  | 2 => ⟨S512, .f32⟩
  | 3 => ⟨S10x512, .f32⟩
  | 4 => ⟨S10, .f32⟩
  | 5 => ⟨S100x256, .f32⟩
  | 6 => ⟨S_, .f32⟩
  | 7 => ⟨S100, .f32⟩
  | 8 => ⟨S100x1, .f32⟩
  | 9 => ⟨S1x100, .f32⟩
  | 10 => ⟨S100x100, .f32⟩
  | 11 => ⟨S100x100, .f32⟩
  | 12 => ⟨S100x100, .f32⟩
  | 13 => ⟨S256x100, .f32⟩
  | 14 => ⟨S100x100, .f32⟩
  | 15 => ⟨S_, .f32⟩
  | 16 => ⟨S100x100, .f32⟩
  | 17 => ⟨S100x100, .f32⟩
  | 18 => ⟨S100x100, .f32⟩
  | 19 => ⟨S_, .f32⟩
  | 20 => ⟨S100x100, .f32⟩
  | 21 => ⟨S100x100, .f32⟩
  | 22 => ⟨S100x100, .f32⟩
  | 23 => ⟨S_, .f32⟩
  | 24 => ⟨S100x100, .f32⟩
  | 25 => ⟨S100x100, .i1⟩
  | 26 => ⟨S100x100, .f32⟩
  | 27 => ⟨S100x100, .f32⟩
  | 28 => ⟨S_, .f32⟩
  | 29 => ⟨S100x100, .f32⟩
  | 30 => ⟨S100x100, .f32⟩
  | 31 => ⟨S100x100, .f32⟩
  | 32 => ⟨S100x100, .f32⟩
  | 33 => ⟨S_, .f32⟩
  | 34 => ⟨S100, .f32⟩
  | 35 => ⟨S_, .f32⟩
  | 36 => ⟨S100, .f32⟩
  | 37 => ⟨S100, .f32⟩
  | 38 => ⟨S100, .f32⟩
  | 39 => ⟨S_, .f32⟩
  | 40 => ⟨S100, .f32⟩
  | 41 => ⟨S100, .f32⟩
  | 42 => ⟨S100x100, .i32⟩
  | 43 => ⟨S100x100, .i32⟩
  | 44 => ⟨S_, .i32⟩
  | 45 => ⟨S100x100, .i32⟩
  | 46 => ⟨S100x100, .i32⟩
  | 47 => ⟨S100x100, .i1⟩
  | 48 => ⟨S100x100, .f32⟩
  | 49 => ⟨S100x1, .f32⟩
  | 50 => ⟨S100x100, .f32⟩
  | 51 => ⟨S100x100, .f32⟩
  | 52 => ⟨S1x100, .f32⟩
  | 53 => ⟨S100x100, .f32⟩
  | 54 => ⟨S100x100, .f32⟩
  | 55 => ⟨S100x100, .f32⟩
  | 56 => ⟨S_, .f32⟩
  | 57 => ⟨S100x100, .f32⟩
  | 58 => ⟨S100x100, .f32⟩
  | 59 => ⟨S100x100, .i32⟩
  | 60 => ⟨S100x100, .i32⟩
  | 61 => ⟨S_, .i32⟩
  | 62 => ⟨S100x100, .i32⟩
  | 63 => ⟨S100x100, .i32⟩
  | 64 => ⟨S100x100, .i1⟩
  | 65 => ⟨S100x100, .f32⟩
  | 66 => ⟨S_, .i32⟩
  | 67 => ⟨S_, .i32⟩
  | 68 => ⟨S_, .i32⟩
  | 69 => ⟨S_, .i32⟩
  | 70 => ⟨S100x100, .f32⟩
  | 71 => ⟨S100x100, .f32⟩
  | 72 => ⟨S_, .i32⟩
  | 73 => ⟨S_, .i1⟩
  | 74 => ⟨S_, .i32⟩
  | 75 => ⟨S_, .i32⟩
  | 76 => ⟨S100x100, .i32⟩
  | 77 => ⟨S100x100, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i1⟩
  | 86 => ⟨S_, .i1⟩
  | 87 => ⟨S_, .i1⟩
  | 88 => ⟨S_, .i1⟩
  | 89 => ⟨S_, .i1⟩
  | 90 => ⟨S_, .i1⟩
  | 91 => ⟨S_, .i1⟩
  | 92 => ⟨S_, .i1⟩
  | 93 => ⟨S_, .i1⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i1⟩
  | 108 => ⟨S_, .i32⟩
  | 109 => ⟨S_, .i1⟩
  | 110 => ⟨S_, .i1⟩
  | 111 => ⟨S_, .i1⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i1⟩
  | 124 => ⟨S_, .i32⟩
  | 125 => ⟨S_, .i1⟩
  | 126 => ⟨S_, .i1⟩
  | 127 => ⟨S_, .i1⟩
  | _ => ⟨S100x256, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S1x1, .f32⟩
  | 15 => ⟨S_, .f32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S1x1, .f32⟩
  | 29 => ⟨S_, .f32⟩
  | 30 => ⟨S_, .i1⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1x1, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i1⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S100x100, .i1⟩
  | 78 => ⟨S_, .i32⟩
  | 79 => ⟨S100x100, .i32⟩
  | 80 => ⟨S100x100, .i1⟩
  | 81 => ⟨S_, .i32⟩
  | 82 => ⟨S100x100, .i32⟩
  | 83 => ⟨S100x100, .i1⟩
  | 84 => ⟨S100x100, .i1⟩
  | 85 => ⟨S_, .f32⟩
  | 86 => ⟨S_, .f32⟩
  | 87 => ⟨S100x100, .f32⟩
  | 88 => ⟨S100x100, .f32⟩
  | 89 => ⟨S100x100, .f32⟩
  | 90 => ⟨S_, .i32⟩
  | 91 => ⟨S100x100, .i32⟩
  | 92 => ⟨S100x100, .i1⟩
  | 93 => ⟨S_, .i32⟩
  | 94 => ⟨S100x100, .i32⟩
  | 95 => ⟨S100x100, .i1⟩
  | 96 => ⟨S100x100, .i1⟩
  | 97 => ⟨S_, .i32⟩
  | 98 => ⟨S100x100, .i32⟩
  | 99 => ⟨S100x100, .i1⟩
  | 100 => ⟨S_, .i32⟩
  | 101 => ⟨S100x100, .i32⟩
  | 102 => ⟨S100x100, .i1⟩
  | 103 => ⟨S100x100, .i1⟩
  | 104 => ⟨S_, .f32⟩
  | 105 => ⟨S_, .f32⟩
  | 106 => ⟨S_, .f32⟩
  | 107 => ⟨S100x100, .f32⟩
  | 108 => ⟨S100x100, .f32⟩
  | 109 => ⟨S100x100, .f32⟩
  | 110 => ⟨S100x100, .f32⟩
  | 111 => ⟨S100x100, .f32⟩
  | 112 => ⟨S100x100, .f32⟩
  | 113 => ⟨S100x100, .f32⟩
  | 114 => ⟨S100x100, .f32⟩
  | 115 => ⟨S100x100, .f32⟩
  | 116 => ⟨S100x100, .f32⟩
  | 117 => ⟨S_, .i32⟩
  | 118 => ⟨S_, .i32⟩
  | 119 => ⟨S100x100, .i32⟩
  | 120 => ⟨S100x100, .i32⟩
  | 121 => ⟨S_, .i32⟩
  | 122 => ⟨S100x100, .i32⟩
  | 123 => ⟨S100x100, .i32⟩
  | 124 => ⟨S100x100, .i1⟩
  | 125 => ⟨S_, .f32⟩
  | 126 => ⟨S_, .f32⟩
  | 127 => ⟨S100x100, .f32⟩
  | _ => ⟨S100x256, .f32⟩

abbrev hbmTy0_2 (i : Nat) : BufTy := match i % 128 with
  | 0 => ⟨S100x100, .f32⟩
  | 1 => ⟨S_, .f32⟩
  | 2 => ⟨S100, .f32⟩
  | 3 => ⟨S100, .i32⟩
  | 4 => ⟨S100, .f32⟩
  | 5 => ⟨S100, .i32⟩
  | 6 => ⟨S_, .i32⟩
  | 7 => ⟨S100, .i32⟩
  | 8 => ⟨S100, .i1⟩
  | 9 => ⟨S_, .i32⟩
  | 10 => ⟨S100, .i32⟩
  | 11 => ⟨S100, .i32⟩
  | 12 => ⟨S100, .i32⟩
  | 13 => ⟨S100x1, .i32⟩
  | 14 => ⟨S100, .f32⟩
  | 15 => ⟨S_, .i32⟩
  | 16 => ⟨S100, .i32⟩
  | 17 => ⟨S100, .i1⟩
  | 18 => ⟨S_, .i32⟩
  | 19 => ⟨S100, .i32⟩
  | 20 => ⟨S100, .i32⟩
  | 21 => ⟨S100, .i32⟩
  | 22 => ⟨S100x1, .i32⟩
  | 23 => ⟨S100x100, .f32⟩
  | 24 => ⟨S100x10, .f32⟩
  | 25 => ⟨S10x512, .f32⟩
  | 26 => ⟨S100x512, .f32⟩
  | 27 => ⟨S1x512, .f32⟩
  | 28 => ⟨S100x512, .f32⟩
  | 29 => ⟨S100x512, .f32⟩
  | 30 => ⟨S_, .f32⟩
  | 31 => ⟨S100x512, .f32⟩
  | 32 => ⟨S100x512, .f32⟩
  | 33 => ⟨S512x10, .f32⟩
  | 34 => ⟨S100x10, .f32⟩
  | 35 => ⟨S1x10, .f32⟩
  | 36 => ⟨S100x10, .f32⟩
  | 37 => ⟨S100x10, .f32⟩
  | _ => ⟨S100x256, .f32⟩

abbrev hbmTy (i : Nat) : BufTy := match i / 128 with
  | 0 => hbmTy0_0 i
  | 1 => hbmTy0_1 i
  | 2 => hbmTy0_2 i
  | _ => ⟨S100x256, .f32⟩

abbrev bufTy : (tb : Table) → Fin (tcTables nBuf tb) → BufTy
  | .hbm, ⟨i, _⟩ => hbmTy i
  | _, _ => ⟨S100x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_c_10 : Ref sig .tc := ⟨.hbm, 67, rfl⟩
abbrev main_v50_0 : Ref sig .tc := ⟨.hbm, 68, rfl⟩
abbrev main_v50_1 : Ref sig .tc := ⟨.hbm, 69, rfl⟩
abbrev main_v50_2 : Ref sig .tc := ⟨.hbm, 70, rfl⟩
abbrev main_v50_3 : Ref sig .tc := ⟨.hbm, 71, rfl⟩
abbrev main_while0c_c_21 : Ref sig .tc := ⟨.hbm, 72, rfl⟩
abbrev main_while0c_v85 : Ref sig .tc := ⟨.hbm, 73, rfl⟩
abbrev main_while0b_c_21 : Ref sig .tc := ⟨.hbm, 74, rfl⟩
abbrev main_while0b_v85 : Ref sig .tc := ⟨.hbm, 75, rfl⟩
abbrev main_while0b_v86 : Ref sig .tc := ⟨.hbm, 76, rfl⟩
abbrev main_while0b_v87 : Ref sig .tc := ⟨.hbm, 77, rfl⟩
abbrev main_while0b_c_22 : Ref sig .tc := ⟨.hbm, 78, rfl⟩
abbrev main_while0b_call0_v0 : Ref sig .tc := ⟨.hbm, 79, rfl⟩
abbrev main_while0b_call0_v1 : Ref sig .tc := ⟨.hbm, 80, rfl⟩
abbrev main_while0b_call0_v2 : Ref sig .tc := ⟨.hbm, 81, rfl⟩
abbrev main_while0b_call0_v3 : Ref sig .tc := ⟨.hbm, 82, rfl⟩
abbrev main_while0b_call0_v4 : Ref sig .tc := ⟨.hbm, 83, rfl⟩
abbrev main_while0b_call0_c : Ref sig .tc := ⟨.hbm, 84, rfl⟩
abbrev main_while0b_call0_v5 : Ref sig .tc := ⟨.hbm, 85, rfl⟩
abbrev main_while0b_call0_c_0 : Ref sig .tc := ⟨.hbm, 86, rfl⟩
abbrev main_while0b_call0_v6 : Ref sig .tc := ⟨.hbm, 87, rfl⟩
abbrev main_while0b_call0_v7 : Ref sig .tc := ⟨.hbm, 88, rfl⟩
abbrev main_while0b_call0_v8 : Ref sig .tc := ⟨.hbm, 89, rfl⟩
abbrev main_while0b_call0_c_1 : Ref sig .tc := ⟨.hbm, 90, rfl⟩
abbrev main_while0b_call0_v9 : Ref sig .tc := ⟨.hbm, 91, rfl⟩
abbrev main_while0b_call0_v10 : Ref sig .tc := ⟨.hbm, 92, rfl⟩
abbrev main_while0b_call0_v11 : Ref sig .tc := ⟨.hbm, 93, rfl⟩
abbrev main_while0b_call0_v12 : Ref sig .tc := ⟨.hbm, 94, rfl⟩
abbrev main_while0b_call0_c_2 : Ref sig .tc := ⟨.hbm, 95, rfl⟩
abbrev main_while0b_call0_v13 : Ref sig .tc := ⟨.hbm, 96, rfl⟩
abbrev main_while0b_v88 : Ref sig .tc := ⟨.hbm, 97, rfl⟩
abbrev main_while0b_c_23 : Ref sig .tc := ⟨.hbm, 98, rfl⟩
abbrev main_while0b_call1_c : Ref sig .tc := ⟨.hbm, 99, rfl⟩
abbrev main_while0b_call1_v0 : Ref sig .tc := ⟨.hbm, 100, rfl⟩
abbrev main_while0b_call1_c_0 : Ref sig .tc := ⟨.hbm, 101, rfl⟩
abbrev main_while0b_call1_v1 : Ref sig .tc := ⟨.hbm, 102, rfl⟩
abbrev main_while0b_call1_v2 : Ref sig .tc := ⟨.hbm, 103, rfl⟩
abbrev main_while0b_call1_c_1 : Ref sig .tc := ⟨.hbm, 104, rfl⟩
abbrev main_while0b_call1_v3 : Ref sig .tc := ⟨.hbm, 105, rfl⟩
abbrev main_while0b_call1_c_2 : Ref sig .tc := ⟨.hbm, 106, rfl⟩
abbrev main_while0b_call1_v4 : Ref sig .tc := ⟨.hbm, 107, rfl⟩
abbrev main_while0b_call1_c_3 : Ref sig .tc := ⟨.hbm, 108, rfl⟩
abbrev main_while0b_call1_v5 : Ref sig .tc := ⟨.hbm, 109, rfl⟩
abbrev main_while0b_call1_v6 : Ref sig .tc := ⟨.hbm, 110, rfl⟩
abbrev main_while0b_call1_v7 : Ref sig .tc := ⟨.hbm, 111, rfl⟩
abbrev main_while0b_call1_v8 : Ref sig .tc := ⟨.hbm, 112, rfl⟩
abbrev main_while0b_v89 : Ref sig .tc := ⟨.hbm, 113, rfl⟩
abbrev main_while0b_c_24 : Ref sig .tc := ⟨.hbm, 114, rfl⟩
abbrev main_while0b_call2_c : Ref sig .tc := ⟨.hbm, 115, rfl⟩
abbrev main_while0b_call2_v0 : Ref sig .tc := ⟨.hbm, 116, rfl⟩
abbrev main_while0b_call2_c_0 : Ref sig .tc := ⟨.hbm, 117, rfl⟩
abbrev main_while0b_call2_v1 : Ref sig .tc := ⟨.hbm, 118, rfl⟩
abbrev main_while0b_call2_v2 : Ref sig .tc := ⟨.hbm, 119, rfl⟩
abbrev main_while0b_call2_c_1 : Ref sig .tc := ⟨.hbm, 120, rfl⟩
abbrev main_while0b_call2_v3 : Ref sig .tc := ⟨.hbm, 121, rfl⟩
abbrev main_while0b_call2_c_2 : Ref sig .tc := ⟨.hbm, 122, rfl⟩
abbrev main_while0b_call2_v4 : Ref sig .tc := ⟨.hbm, 123, rfl⟩
abbrev main_while0b_call2_c_3 : Ref sig .tc := ⟨.hbm, 124, rfl⟩
abbrev main_while0b_call2_v5 : Ref sig .tc := ⟨.hbm, 125, rfl⟩
abbrev main_while0b_call2_v6 : Ref sig .tc := ⟨.hbm, 126, rfl⟩
abbrev main_while0b_call2_v7 : Ref sig .tc := ⟨.hbm, 127, rfl⟩
abbrev main_while0b_call2_v8 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_c_25 : Ref sig .tc := ⟨.hbm, 132, rfl⟩
abbrev main_while0b_v93 : Ref sig .tc := ⟨.hbm, 133, rfl⟩
abbrev main_while0b_c_26 : Ref sig .tc := ⟨.hbm, 134, rfl⟩
abbrev main_while0b_v94 : Ref sig .tc := ⟨.hbm, 135, rfl⟩
abbrev main_while0b_v95 : Ref sig .tc := ⟨.hbm, 136, rfl⟩
abbrev main_while0b_c_27 : Ref sig .tc := ⟨.hbm, 137, rfl⟩
abbrev main_while0b_v96 : Ref sig .tc := ⟨.hbm, 138, rfl⟩
abbrev main_while0b_c_28 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_v100 : Ref sig .tc := ⟨.hbm, 143, rfl⟩
abbrev main_while0b_v101 : Ref sig .tc := ⟨.hbm, 144, rfl⟩
abbrev main_while0b_v102 : Ref sig .tc := ⟨.hbm, 145, rfl⟩
abbrev main_while0b_c_29 : Ref sig .tc := ⟨.hbm, 146, rfl⟩
abbrev main_while0b_v103 : Ref sig .tc := ⟨.hbm, 147, rfl⟩
abbrev main_while0b_c_30 : Ref sig .tc := ⟨.hbm, 148, rfl⟩
abbrev main_while0b_v104 : Ref sig .tc := ⟨.hbm, 149, rfl⟩
abbrev main_while0b_v105 : Ref sig .tc := ⟨.hbm, 150, rfl⟩
abbrev main_while0b_c_31 : Ref sig .tc := ⟨.hbm, 151, rfl⟩
abbrev main_while0b_v106 : Ref sig .tc := ⟨.hbm, 152, rfl⟩
abbrev main_while0b_c_32 : Ref sig .tc := ⟨.hbm, 153, rfl⟩
abbrev main_while0b_v107 : Ref sig .tc := ⟨.hbm, 154, rfl⟩
abbrev main_while0b_v108 : Ref sig .tc := ⟨.hbm, 155, rfl⟩
abbrev main_while0b_v109 : Ref sig .tc := ⟨.hbm, 156, rfl⟩
abbrev main_while0b_v110 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_c_33 : Ref sig .tc := ⟨.hbm, 161, rfl⟩
abbrev main_while0b_v114 : Ref sig .tc := ⟨.hbm, 162, rfl⟩
abbrev main_while0b_c_34 : Ref sig .tc := ⟨.hbm, 163, rfl⟩
abbrev main_while0b_v115 : Ref sig .tc := ⟨.hbm, 164, rfl⟩
abbrev main_while0b_v116 : Ref sig .tc := ⟨.hbm, 165, rfl⟩
abbrev main_while0b_c_35 : Ref sig .tc := ⟨.hbm, 166, rfl⟩
abbrev main_while0b_v117 : Ref sig .tc := ⟨.hbm, 167, rfl⟩
abbrev main_while0b_c_36 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_cst_37 : Ref sig .tc := ⟨.hbm, 173, rfl⟩
abbrev main_while0b_call3_v0 : Ref sig .tc := ⟨.hbm, 174, rfl⟩
abbrev main_while0b_v122 : Ref sig .tc := ⟨.hbm, 175, rfl⟩
abbrev main_while0b_v123 : Ref sig .tc := ⟨.hbm, 176, rfl⟩
abbrev main_while0b_cst_38 : Ref sig .tc := ⟨.hbm, 177, rfl⟩
abbrev main_while0b_v124 : Ref sig .tc := ⟨.hbm, 178, rfl⟩
abbrev main_while0b_v125 : Ref sig .tc := ⟨.hbm, 179, rfl⟩
abbrev main_while0b_cst_39 : Ref sig .tc := ⟨.hbm, 180, rfl⟩
abbrev main_while0b_v126 : Ref sig .tc := ⟨.hbm, 181, rfl⟩
abbrev main_while0b_cst_40 : Ref sig .tc := ⟨.hbm, 182, rfl⟩
abbrev main_while0b_cst_41 : Ref sig .tc := ⟨.hbm, 183, rfl⟩
abbrev main_while0b_v127 : Ref sig .tc := ⟨.hbm, 184, rfl⟩
abbrev main_while0b_v128 : Ref sig .tc := ⟨.hbm, 185, rfl⟩
abbrev main_while0b_v129 : Ref sig .tc := ⟨.hbm, 186, rfl⟩
abbrev main_while0b_cst_42 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_cst_43 : Ref sig .tc := ⟨.hbm, 193, rfl⟩
abbrev main_while0b_v135 : Ref sig .tc := ⟨.hbm, 194, rfl⟩
abbrev main_while0b_cst_44 : Ref sig .tc := ⟨.hbm, 195, rfl⟩
abbrev main_while0b_call5_v0 : Ref sig .tc := ⟨.hbm, 196, rfl⟩
abbrev main_while0b_v136 : Ref sig .tc := ⟨.hbm, 197, rfl⟩
abbrev main_while0b_v137 : Ref sig .tc := ⟨.hbm, 198, rfl⟩
abbrev main_while0b_cst_45 : Ref sig .tc := ⟨.hbm, 199, rfl⟩
abbrev main_while0b_v138 : Ref sig .tc := ⟨.hbm, 200, rfl⟩
abbrev main_while0b_v139 : Ref sig .tc := ⟨.hbm, 201, rfl⟩
abbrev main_while0b_cst_46 : Ref sig .tc := ⟨.hbm, 202, rfl⟩
abbrev main_while0b_v140 : Ref sig .tc := ⟨.hbm, 203, rfl⟩
abbrev main_while0b_v141 : Ref sig .tc := ⟨.hbm, 204, rfl⟩
abbrev main_while0b_v142 : Ref sig .tc := ⟨.hbm, 205, rfl⟩
abbrev main_while0b_v143 : Ref sig .tc := ⟨.hbm, 206, rfl⟩
abbrev main_while0b_v144 : Ref sig .tc := ⟨.hbm, 207, rfl⟩
abbrev main_while0b_v145 : Ref sig .tc := ⟨.hbm, 208, rfl⟩
abbrev main_while0b_v146 : Ref sig .tc := ⟨.hbm, 209, rfl⟩
abbrev main_while0b_v147 : Ref sig .tc := ⟨.hbm, 210, rfl⟩
abbrev main_while0b_v148 : Ref sig .tc := ⟨.hbm, 211, rfl⟩
abbrev main_while0b_v149 : Ref sig .tc := ⟨.hbm, 212, rfl⟩
abbrev main_while0b_cst_47 : Ref sig .tc := ⟨.hbm, 213, rfl⟩
abbrev main_while0b_call6_v0 : Ref sig .tc := ⟨.hbm, 214, rfl⟩
abbrev main_while0b_call6_v1 : Ref sig .tc := ⟨.hbm, 215, rfl⟩
abbrev main_while0b_call6_v2 : Ref sig .tc := ⟨.hbm, 216, rfl⟩
abbrev main_while0b_v150 : Ref sig .tc := ⟨.hbm, 217, rfl⟩
abbrev main_while0b_v151 : Ref sig .tc := ⟨.hbm, 218, rfl⟩
abbrev main_while0b_v152 : Ref sig .tc := ⟨.hbm, 219, rfl⟩
abbrev main_while0b_v153 : Ref sig .tc := ⟨.hbm, 220, rfl⟩
abbrev main_while0b_v154 : Ref sig .tc := ⟨.hbm, 221, rfl⟩
abbrev main_while0b_v155 : Ref sig .tc := ⟨.hbm, 222, rfl⟩
abbrev main_while0b_v156 : Ref sig .tc := ⟨.hbm, 223, rfl⟩
abbrev main_while0b_v157 : Ref sig .tc := ⟨.hbm, 224, rfl⟩
abbrev main_while0b_v158 : Ref sig .tc := ⟨.hbm, 225, rfl⟩
abbrev main_while0b_v159 : Ref sig .tc := ⟨.hbm, 226, rfl⟩
abbrev main_while0b_v160 : Ref sig .tc := ⟨.hbm, 227, rfl⟩
abbrev main_while0b_v161 : Ref sig .tc := ⟨.hbm, 228, rfl⟩
abbrev main_while0b_v162 : Ref sig .tc := ⟨.hbm, 229, rfl⟩
abbrev main_while0b_v163 : Ref sig .tc := ⟨.hbm, 230, rfl⟩
abbrev main_while0b_v164 : Ref sig .tc := ⟨.hbm, 231, rfl⟩
abbrev main_while0b_v165 : Ref sig .tc := ⟨.hbm, 232, rfl⟩
abbrev main_while0b_cst_48 : Ref sig .tc := ⟨.hbm, 233, rfl⟩
abbrev main_while0b_call7_v0 : Ref sig .tc := ⟨.hbm, 234, rfl⟩
abbrev main_while0b_call7_v1 : Ref sig .tc := ⟨.hbm, 235, rfl⟩
abbrev main_while0b_call7_v2 : Ref sig .tc := ⟨.hbm, 236, rfl⟩
abbrev main_while0b_v166 : Ref sig .tc := ⟨.hbm, 237, rfl⟩
abbrev main_while0b_call8_v0 : Ref sig .tc := ⟨.hbm, 238, rfl⟩
abbrev main_while0b_v167 : Ref sig .tc := ⟨.hbm, 239, rfl⟩
abbrev main_while0b_v168 : Ref sig .tc := ⟨.hbm, 240, rfl⟩
abbrev main_while0b_v169 : Ref sig .tc := ⟨.hbm, 241, rfl⟩
abbrev main_while0b_v170 : Ref sig .tc := ⟨.hbm, 242, rfl⟩
abbrev main_while0b_v171 : Ref sig .tc := ⟨.hbm, 243, rfl⟩
abbrev main_while0b_v172 : Ref sig .tc := ⟨.hbm, 244, rfl⟩
abbrev main_while0b_c_49 : Ref sig .tc := ⟨.hbm, 245, rfl⟩
abbrev main_while0b_v173 : Ref sig .tc := ⟨.hbm, 246, rfl⟩
abbrev main_v51 : Ref sig .tc := ⟨.hbm, 247, rfl⟩
abbrev main_v52 : Ref sig .tc := ⟨.hbm, 248, rfl⟩
abbrev main_c_11 : Ref sig .tc := ⟨.hbm, 249, rfl⟩
abbrev main_v53 : Ref sig .tc := ⟨.hbm, 250, rfl⟩
abbrev main_v54 : Ref sig .tc := ⟨.hbm, 251, rfl⟩
abbrev main_v55 : Ref sig .tc := ⟨.hbm, 252, rfl⟩
abbrev main_cst_12 : Ref sig .tc := ⟨.hbm, 253, rfl⟩
abbrev main_call10_v0 : Ref sig .tc := ⟨.hbm, 254, rfl⟩
abbrev main_call10_v1 : Ref sig .tc := ⟨.hbm, 255, rfl⟩
abbrev main_v56 : Ref sig .tc := ⟨.hbm, 256, rfl⟩
abbrev main_cst_13 : Ref sig .tc := ⟨.hbm, 257, rfl⟩
abbrev main_v57 : Ref sig .tc := ⟨.hbm, 258, rfl⟩
abbrev main_call11_v0 : Ref sig .tc := ⟨.hbm, 259, rfl⟩
abbrev main_call11_v1_0 : Ref sig .tc := ⟨.hbm, 260, rfl⟩
abbrev main_v58 : Ref sig .tc := ⟨.hbm, 261, rfl⟩
abbrev main_c_14 : Ref sig .tc := ⟨.hbm, 262, rfl⟩
abbrev main_v59 : Ref sig .tc := ⟨.hbm, 263, rfl⟩
abbrev main_v60 : Ref sig .tc := ⟨.hbm, 264, rfl⟩
abbrev main_c_15 : Ref sig .tc := ⟨.hbm, 265, rfl⟩
abbrev main_v61 : Ref sig .tc := ⟨.hbm, 266, rfl⟩
abbrev main_v62 : Ref sig .tc := ⟨.hbm, 267, rfl⟩
abbrev main_v63 : Ref sig .tc := ⟨.hbm, 268, rfl⟩
abbrev main_v64 : Ref sig .tc := ⟨.hbm, 269, rfl⟩
abbrev main_v65 : Ref sig .tc := ⟨.hbm, 270, rfl⟩
abbrev main_c_16 : Ref sig .tc := ⟨.hbm, 271, rfl⟩
abbrev main_v66 : Ref sig .tc := ⟨.hbm, 272, rfl⟩
abbrev main_v67 : Ref sig .tc := ⟨.hbm, 273, rfl⟩
abbrev main_c_17 : Ref sig .tc := ⟨.hbm, 274, rfl⟩
abbrev main_v68 : Ref sig .tc := ⟨.hbm, 275, rfl⟩
abbrev main_v69 : Ref sig .tc := ⟨.hbm, 276, rfl⟩
abbrev main_v70 : Ref sig .tc := ⟨.hbm, 277, rfl⟩
abbrev main_v71 : Ref sig .tc := ⟨.hbm, 278, rfl⟩
abbrev main_v72 : Ref sig .tc := ⟨.hbm, 279, rfl⟩
abbrev main_v73 : Ref sig .tc := ⟨.hbm, 280, rfl⟩
abbrev main_v74 : Ref sig .tc := ⟨.hbm, 281, rfl⟩
abbrev main_v75 : Ref sig .tc := ⟨.hbm, 282, rfl⟩
abbrev main_v76 : Ref sig .tc := ⟨.hbm, 283, rfl⟩
abbrev main_v77 : Ref sig .tc := ⟨.hbm, 284, rfl⟩
abbrev main_v78 : Ref sig .tc := ⟨.hbm, 285, rfl⟩
abbrev main_call12_cst : Ref sig .tc := ⟨.hbm, 286, rfl⟩
abbrev main_call12_v0 : Ref sig .tc := ⟨.hbm, 287, rfl⟩
abbrev main_v79 : Ref sig .tc := ⟨.hbm, 288, rfl⟩
abbrev main_v80 : Ref sig .tc := ⟨.hbm, 289, rfl⟩
abbrev main_v81 : Ref sig .tc := ⟨.hbm, 290, rfl⟩
abbrev main_v82 : Ref sig .tc := ⟨.hbm, 291, rfl⟩
abbrev main_v83 : Ref sig .tc := ⟨.hbm, 292, rfl⟩
abbrev main_v84 : Ref sig .tc := ⟨.hbm, 293, rfl⟩

abbrev nD : Nat := 1
abbrev τ : Topo := Topo.v7x

variable {F : FTy → Type} [FloatOps F]

abbrev main_while0_count : Scf.Loop 32 := ⟨0#32, 120000#32, 1#32⟩
-- ==== Proof.RefFrame.lean ====
/- The reference's frame: what its argument arrays hold after the host operations before the loop, after every
   trip of the loop and after the operations that follow it. -/
module

public import proofs.«01_k».proof.Defs
public import proofs.«01_k».proof.Proof.Gen.ReferenceIdeal
public import proofs.«01_k».proof.Proof.Gen.ReferenceIdeal.Run
public import Idealize.ShloMosaic.Lib.Quiescent
public import Idealize.ShloMosaic.Lib.Claim

@[expose] public section

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Value
open Idealize.SL Idealize.SL.Sem

variable {F : FTy → Type} [FloatOps F]

variable (m : (ℓ : Loc nD τ sig) → Buf (Elt F) ℓ) (ρ : Dev nD → PrngReg)

/-- Argument 0 keeps its contents over one trip of the loop, -/
theorem trip_arg0 (X : Valuation τ sig (Elt F)) :
    afterL bodyI (after condOps X) (Proc.devRef .tc main_arg0) = X (Proc.devRef .tc main_arg0) := by
  simp only [afterL_cons, afterL_nil]
  after_reads_simp

/-- over the operations before the loop, -/
theorem entry_arg0 (c : Dev nD) :
    entryContents preI m c (Proc.devRef .tc main_arg0) = m (c.tc.loc main_arg0) := by
  simp only [entryContents, afterL_cons, afterL_nil]
  after_reads_simp

/-- up to any trip, -/
theorem atK_arg0 (c : Dev nD) : ∀ k, atK m k c (Proc.devRef .tc main_arg0) = m (c.tc.loc main_arg0)
  | 0 => entry_arg0 m c
  | k + 1 => (trip_arg0 (atK m k c)).trans (atK_arg0 c k)

/-- and to the end of the program. -/
theorem final_arg0 (c : Dev nD) (K : ℕ) :
    finalContents condOps preI bodyI postI K m c (Proc.devRef .tc main_arg0) = m (c.tc.loc main_arg0) := by
  refine Eq.trans ?_ (atK_arg0 m c K)
  show afterL postI (after condOps (atK m K c)) _ = _
  generalize atK m K c = X
  simp only [afterL_cons, afterL_nil]
  after_reads_simp

/-- Argument 1 keeps its contents over one trip of the loop, -/
theorem trip_arg1 (X : Valuation τ sig (Elt F)) :
    afterL bodyI (after condOps X) (Proc.devRef .tc main_arg1) = X (Proc.devRef .tc main_arg1) := by
  simp only [afterL_cons, afterL_nil]
  after_reads_simp

/-- over the operations before the loop, -/
theorem entry_arg1 (c : Dev nD) :
    entryContents preI m c (Proc.devRef .tc main_arg1) = m (c.tc.loc main_arg1) := by
  simp only [entryContents, afterL_cons, afterL_nil]
  after_reads_simp

/-- up to any trip, -/
theorem atK_arg1 (c : Dev nD) : ∀ k, atK m k c (Proc.devRef .tc main_arg1) = m (c.tc.loc main_arg1)
  | 0 => entry_arg1 m c
  | k + 1 => (trip_arg1 (atK m k c)).trans (atK_arg1 c k)

/-- and to the end of the program. -/
theorem final_arg1 (c : Dev nD) (K : ℕ) :
    finalContents condOps preI bodyI postI K m c (Proc.devRef .tc main_arg1) = m (c.tc.loc main_arg1) := by
  refine Eq.trans ?_ (atK_arg1 m c K)
  show afterL postI (after condOps (atK m K c)) _ = _
  generalize atK m K c = X
  simp only [afterL_cons, afterL_nil]
  after_reads_simp

/-- Argument 2 keeps its contents over one trip of the loop, -/
theorem trip_arg2 (X : Valuation τ sig (Elt F)) :
    afterL bodyI (after condOps X) (Proc.devRef .tc main_arg2) = X (Proc.devRef .tc main_arg2) := by
  simp only [afterL_cons, afterL_nil]
  after_reads_simp

/-- over the operations before the loop, -/
theorem entry_arg2 (c : Dev nD) :
    entryContents preI m c (Proc.devRef .tc main_arg2) = m (c.tc.loc main_arg2) := by
  simp only [entryContents, afterL_cons, afterL_nil]
  after_reads_simp

/-- up to any trip, -/
theorem atK_arg2 (c : Dev nD) : ∀ k, atK m k c (Proc.devRef .tc main_arg2) = m (c.tc.loc main_arg2)
  | 0 => entry_arg2 m c
  | k + 1 => (trip_arg2 (atK m k c)).trans (atK_arg2 c k)

/-- and to the end of the program. -/
theorem final_arg2 (c : Dev nD) (K : ℕ) :
    finalContents condOps preI bodyI postI K m c (Proc.devRef .tc main_arg2) = m (c.tc.loc main_arg2) := by
  refine Eq.trans ?_ (atK_arg2 m c K)
  show afterL postI (after condOps (atK m K c)) _ = _
  generalize atK m K c = X
  simp only [afterL_cons, afterL_nil]
  after_reads_simp

/-- Argument 3 keeps its contents over one trip of the loop, -/
theorem trip_arg3 (X : Valuation τ sig (Elt F)) :
    afterL bodyI (after condOps X) (Proc.devRef .tc main_arg3) = X (Proc.devRef .tc main_arg3) := by
  simp only [afterL_cons, afterL_nil]
  after_reads_simp

/-- over the operations before the loop, -/
theorem entry_arg3 (c : Dev nD) :
    entryContents preI m c (Proc.devRef .tc main_arg3) = m (c.tc.loc main_arg3) := by
  simp only [entryContents, afterL_cons, afterL_nil]
  after_reads_simp

/-- up to any trip, -/
theorem atK_arg3 (c : Dev nD) : ∀ k, atK m k c (Proc.devRef .tc main_arg3) = m (c.tc.loc main_arg3)
  | 0 => entry_arg3 m c
  | k + 1 => (trip_arg3 (atK m k c)).trans (atK_arg3 c k)

/-- and to the end of the program. -/
theorem final_arg3 (c : Dev nD) (K : ℕ) :
    finalContents condOps preI bodyI postI K m c (Proc.devRef .tc main_arg3) = m (c.tc.loc main_arg3) := by
  refine Eq.trans ?_ (atK_arg3 m c K)
  show afterL postI (after condOps (atK m K c)) _ = _
  generalize atK m K c = X
  simp only [afterL_cons, afterL_nil]
  after_reads_simp

/-- Argument 4 keeps its contents over one trip of the loop, -/
theorem trip_arg4 (X : Valuation τ sig (Elt F)) :
    afterL bodyI (after condOps X) (Proc.devRef .tc main_arg4) = X (Proc.devRef .tc main_arg4) := by
  simp only [afterL_cons, afterL_nil]
  after_reads_simp

/-- over the operations before the loop, -/
theorem entry_arg4 (c : Dev nD) :
    entryContents preI m c (Proc.devRef .tc main_arg4) = m (c.tc.loc main_arg4) := by
  simp only [entryContents, afterL_cons, afterL_nil]
  after_reads_simp

/-- up to any trip, -/
theorem atK_arg4 (c : Dev nD) : ∀ k, atK m k c (Proc.devRef .tc main_arg4) = m (c.tc.loc main_arg4)
  | 0 => entry_arg4 m c
  | k + 1 => (trip_arg4 (atK m k c)).trans (atK_arg4 c k)

/-- and to the end of the program. -/
theorem final_arg4 (c : Dev nD) (K : ℕ) :
    finalContents condOps preI bodyI postI K m c (Proc.devRef .tc main_arg4) = m (c.tc.loc main_arg4) := by
  refine Eq.trans ?_ (atK_arg4 m c K)
  show afterL postI (after condOps (atK m K c)) _ = _
  generalize atK m K c = X
  simp only [afterL_cons, afterL_nil]
  after_reads_simp

/-- The reference leaves its arguments unchanged, and no semaphore counter is left raised: it has none. -/
theorem frame : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run_fold m ρ) fun r h =>
    ⟨fun c => ⟨(h c main_arg0 rfl).trans (final_arg0 m c _), (h c main_arg1 rfl).trans (final_arg1 m c _),
      (h c main_arg2 rfl).trans (final_arg2 m c _), (h c main_arg3 rfl).trans (final_arg3 m c _),
      (h c main_arg4 rfl).trans (final_arg4 m c _)⟩,
     sem_eq_zero_of_no_sems rfl r.2⟩

end Cert.ReferenceIdeal.Hand

end
-- ==== Proof.KernelSort.lean ====
/-
  The sorting network of the kernel, read over the extended reals.

  Every compare-and-exchange stage of the network has the same four steps, named here: fetch the partner's lane (`partnerOf`), say
  whether the lane is the upper one of its pair (`upperOf`), say whether the pair is out of order (`swapOf`), and blend the lane with its
  partner by that answer (`blend`). On the keys this kernel sorts (`keys`: zero on the hundred lanes that hold a point, one large number on
  the lanes past them) no pair is ever out of order, so a stage changes nothing: `stage_keeps`.
-/
module

public import proofs.«01_k».proof.Proof.Gen.KernelIdeal.Skeleton
public import Idealize.ShloMosaic.PureOps.Ideal.Laws
public import Idealize.ShloMosaic.Lib.Pointwise

@[expose] public section

noncomputable section

namespace Cert.KernelIdeal.Hand

open Cert.KernelIdeal Cert.KernelIdeal.Gen Idealize.ShloMosaic

/-! ## The steps of a stage -/

section steps

variable {F : FTy → Type} [FloatOps F]

/-- The lane number with the bits of `c` flipped: the partner's lane. -/
def flipLane (c : BitVec 32) : IVec S8x128 32 := xori (iota .tc S8x128 32 [1] iota_S8x128_d1_w32) (broadcast S8x128 c)

/-- The vector's element at the lane `w` names, row by row. -/
def partnerOf (v : FVec F S8x128 .f32) (w : IVec S8x128 32) : FVec F S8x128 .f32 :=
  dynamicGather 1 v (shapeCast S8x128 (shapeCast S8x128x1
    (select (cmpi .slt w (broadcast S8x128 0#32)) (addi w (broadcast S8x128 128#32)) w)
    shapeCasts_S8x128_S8x128x1) shapeCasts_S8x128x1_S8x128)

/-- The remainder by two of the lane number scaled by `s` and rounded down. -/
def bitOf (v : FVec F S8x128 .f32) (s : F .f32) : FVec F S8x128 .f32 :=
  remf (floor (mulf v (broadcast S8x128 s))) (broadcast S8x128 (Scalar.ofBits .f32 0x40000000#32))

/-- That remainder brought to the divisor's sign: 1 on the upper lane of a pair, 0 on the lower. -/
def upperOf (r : FVec F S8x128 .f32) : FVec F S8x128 .f32 :=
  select (andi (xori (cmpf .olt r (broadcast S8x128 (Scalar.ofBits .f32 0x00000000#32)))
      (broadcastTo S8x128 (broadcast S8x128 (Scalar.cmpf .olt (Scalar.ofBits (F := F) .f32 0x40000000#32) (Scalar.ofBits .f32 0x00000000#32))) broadcasts_S8x128_S8x128))
      (cmpf .one r (broadcast S8x128 (Scalar.ofBits .f32 0x00000000#32))))
    (addf r (broadcast S8x128 (Scalar.ofBits .f32 0x40000000#32))) r

/-- The sign of each element. -/
def signOf (m : FVec F S8x128 .f32) : FVec F S8x128 .f32 :=
  select (cmpf .ogt (absf m) (broadcast S8x128 (Scalar.ofBits .f32 0x00000000#32)))
    (select (cmpf .olt m (constant S8x128 .f32 0x00000000#32)) (constant S8x128 .f32 0xBF800000#32) (constant S8x128 .f32 0x3F800000#32)) m

/-- 1 where `a` is greater than `b`, else 0. -/
def greater (a b : FVec F S8x128 .f32) : FVec F S8x128 .f32 :=
  signOf (maximumf (subf a b) (broadcast S8x128 (Scalar.ofBits .f32 0x00000000#32)))

/-- 1 where the pair is out of order: `u` says which lanes are upper, `a` is the partner's key and `b` the lane's own. -/
def swapOf (u a b : FVec F S8x128 .f32) : FVec F S8x128 .f32 :=
  addf (mulf u (greater a b)) (mulf (subf (broadcast S8x128 (Scalar.ofBits .f32 0x3F800000#32)) u) (greater b a))

/-- `a` where `c` is 1, `b` where `c` is 0. -/
def blend (c a b : FVec F S8x128 .f32) : FVec F S8x128 .f32 :=
  addf (mulf c a) (mulf (subf (broadcast S8x128 (Scalar.ofBits .f32 0x3F800000#32)) c) b)

end steps

/-! ## The vectors the network holds -/

/-- The lane numbers. -/
def lanes : FVec Ideal S8x128 .f32 := fun i => (((i 1).val : ℝ) : EReal)

/-- The key of the lanes past the points. -/
def far : EReal := Ideal.ofBits .f32 0x7F61B1E6#32

/-- The keys: zero on the hundred points' lanes, `far` on the rest. -/
def keyAt (n : ℕ) : EReal := if n < 100 then 0 else far

def keys : FVec Ideal S8x128 .f32 := fun i => keyAt (i 1).val

theorem zero_le_far : (0 : EReal) ≤ far := by
  have h : far = (((2 ^ 23 + 6402534 : ℝ) * 2 ^ (254 - 127 - 23 : ℤ) : ℝ) : EReal) := by
    simp [far, Ideal.ofBits, Ideal.ieee, -EReal.coe_mul]; norm_num
  rw [h]
  exact EReal.coe_nonneg.2 (by positivity)

theorem keyAt_mono {a b : ℕ} (h : a ≤ b) : keyAt a ≤ keyAt b := by
  unfold keyAt
  split_ifs with h1 h2 h2
  · exact le_rfl
  · exact zero_le_far
  · omega
  · exact le_rfl

/-! ## The steps on them -/

theorem lanes_eq : k0_pay2 (F := Ideal) = lanes := by
  funext i
  show (((BitVec.ofNat 32 (0 * 128 + (i 1).val)).toInt : ℝ) : EReal) = (((i 1).val : ℝ) : EReal)
  have h : (i 1).val < 128 := (i 1).isLt
  have : (BitVec.ofNat 32 (0 * 128 + (i 1).val)).toInt = ((i 1).val : ℤ) := by
    rw [Nat.zero_mul, Nat.zero_add, BitVec.toInt_eq_toNat_cond, BitVec.toNat_ofNat, Nat.mod_eq_of_lt (by omega), if_pos (by omega)]
  rw [this]; norm_num

/-- Flipping the bits of `c` in the lane number, `c` a number below 128. -/
theorem flipLane_apply (c : ℕ) (hc : c < 128) (i : S8x128.Idx) :
    flipLane (BitVec.ofNat 32 c) i = BitVec.ofNat 32 ((i 1).val ^^^ c) := by
  show BitVec.ofNat 32 (0 * 128 + (i 1).val) ^^^ BitVec.ofNat 32 c = _
  rw [Nat.zero_mul, Nat.zero_add, BitVec.ofNat_xor]

theorem partnerOf_keys (c : ℕ) (hc : c < 128) (i : S8x128.Idx) :
    partnerOf keys (flipLane (BitVec.ofNat 32 c)) i = keyAt ((i 1).val ^^^ c) := by
  have hi : (i 1).val < 128 := (i 1).isLt
  have hx : (i 1).val ^^^ c < 128 := Nat.xor_lt_two_pow (n := 7) hi hc
  unfold partnerOf
  rw [shapeCast_comp, shapeCast_id, dynamicGather_apply]
  have hs : select (cmpi .slt (flipLane (BitVec.ofNat 32 c)) (broadcast S8x128 0#32))
      (addi (flipLane (BitVec.ofNat 32 c)) (broadcast S8x128 128#32)) (flipLane (BitVec.ofNat 32 c)) i
      = BitVec.ofNat 32 ((i 1).val ^^^ c) := by
    show Scalar.select (BitVec.ofBool (BitVec.slt (flipLane (BitVec.ofNat 32 c) i) 0#32)) _ (flipLane (BitVec.ofNat 32 c) i) = _
    rw [flipLane_apply c hc]
    have : BitVec.slt (BitVec.ofNat 32 ((i 1).val ^^^ c)) 0#32 = false := by
      rw [BitVec.slt_eq_decide, decide_eq_false_iff_not, BitVec.toInt_eq_toNat_cond, BitVec.toNat_ofNat,
        Nat.mod_eq_of_lt (by omega), if_pos (by omega), BitVec.toInt_zero]
      omega
    rw [this]; rfl
  show keyAt (_ % 128) = _
  simp only [if_pos]
  rw [hs, BitVec.toNat_ofNat, Nat.mod_eq_of_lt (b := 2 ^ 32) (by omega), Nat.mod_eq_of_lt hx]

theorem signOf_apply (m : FVec Ideal S8x128 .f32) (i : S8x128.Idx) : signOf m i = Ideal.sign (m i) :=
  Ideal.jnp_sign_eq_sign_f32 (m i)

theorem bits_one : Ideal.ofBits .f32 0x3F800000#32 = 1 := IdealRules.sign_bit.ideal_onePat .f32

theorem bits_zero : Ideal.ofBits .f32 0x00000000#32 = 0 := Ideal.ofBits_zero_f32

theorem bits_two : Ideal.ofBits .f32 0x40000000#32 = ((2 : ℝ) : EReal) := by
  simp [Ideal.ofBits, Ideal.ieee, -EReal.coe_mul]; norm_num

theorem greater_of_le (a b : FVec Ideal S8x128 .f32) (i : S8x128.Idx) (h : a i ≤ b i) : greater a b i = 0 := by
  unfold greater
  rw [signOf_apply]
  show Ideal.sign (max (a i - b i) (Ideal.ofBits .f32 0x00000000#32)) = 0
  rw [bits_zero, max_eq_right (EReal.sub_nonpos.2 h), Ideal.sign_zero]

/-- Division of whole numbers rounded down. -/
theorem floor_nat_div (n d : ℕ) (hd : 0 < d) : ⌊(n : ℝ) / (d : ℝ)⌋ = ((n / d : ℕ) : ℤ) := by
  have hd' : (0 : ℝ) < d := by exact_mod_cast hd
  rw [Int.floor_eq_iff]
  constructor
  · rw [le_div_iff₀ hd']; exact_mod_cast Nat.div_mul_le_self n d
  · rw [div_lt_iff₀ hd']
    have h : n < (n / d + 1) * d := by
      have := Nat.div_add_mod n d; have := Nat.mod_lt n hd
      rw [Nat.add_mul, Nat.one_mul, Nat.mul_comm]; omega
    exact_mod_cast h

/-- A lane number scaled by `2⁻ᵇ`, rounded down, taken modulo two: its bit `b`. -/
theorem upperOf_apply (b : ℕ) (s : Ideal .f32) (hs : s = (((2 : ℝ) ^ b)⁻¹ : ℝ)) (i : S8x128.Idx) :
    upperOf (bitOf lanes s) i = (((((i 1).val / 2 ^ b) % 2 : ℕ) : ℝ) : EReal) := by
  have hb : bitOf lanes s i = (((((i 1).val / 2 ^ b) % 2 : ℕ) : ℝ) : EReal) := by
    show Ideal.remf (Ideal.liftRound Int.floor ((((i 1).val : ℝ) : EReal) * s)) (Ideal.ofBits .f32 0x40000000#32) = _
    rw [bits_two, hs, ← EReal.coe_mul, Ideal.liftRound_coe, Ideal.remf_coe, if_neg two_ne_zero]
    have hf : ⌊((i 1).val : ℝ) * ((2 : ℝ) ^ b)⁻¹⌋ = (((i 1).val / 2 ^ b : ℕ) : ℤ) := by
      rw [← div_eq_mul_inv, ← floor_nat_div _ _ (Nat.two_pow_pos b)]
      push_cast; rfl
    rw [hf]
    generalize (i 1).val / 2 ^ b = q
    have ht : Ideal.truncInt ((((q : ℕ) : ℤ) : ℝ) / 2) = ((q / 2 : ℕ) : ℤ) := by
      unfold Ideal.truncInt
      rw [if_pos (by positivity)]
      rw [← floor_nat_div _ _ two_pos]
      push_cast; rfl
    rw [ht]
    congr 1
    have := Nat.div_add_mod q 2
    have h2 : ((q : ℕ) : ℝ) = 2 * ((q / 2 : ℕ) : ℝ) + ((q % 2 : ℕ) : ℝ) := by exact_mod_cast this.symm
    rw [Int.cast_natCast, Int.cast_natCast]
    linarith
  have hnn : ¬ (bitOf lanes s i < 0) := by
    rw [hb, not_lt]; exact_mod_cast Nat.zero_le _
  show Scalar.select (((Ideal.cmp .olt (bitOf lanes s i) (Ideal.ofBits .f32 0x00000000#32))
      ^^^ (Ideal.cmp .olt (Ideal.ofBits .f32 0x40000000#32) (Ideal.ofBits .f32 0x00000000#32))) &&& _) _ (bitOf lanes s i) = _
  rw [bits_zero, bits_two]
  have h2 : ¬ (((2 : ℝ) : EReal) < 0) := by rw [not_lt]; exact_mod_cast (by norm_num : (0 : ℝ) ≤ 2)
  simp only [Ideal.cmp, decide_eq_false hnn, decide_eq_false h2, Scalar.select]
  simp [hb]

/-- A pair of keys that stands in order is not swapped. -/
theorem swapOf_keys (c b : ℕ) (hc : c < 128) (s : Ideal .f32) (hs : s = (((2 : ℝ) ^ b)⁻¹ : ℝ))
    (hup : ∀ n < 128, (n / 2 ^ b % 2 = 1 → n ^^^ c ≤ n) ∧ (n / 2 ^ b % 2 = 0 → n ≤ n ^^^ c)) (i : S8x128.Idx) :
    swapOf (upperOf (bitOf lanes s)) (partnerOf keys (flipLane (BitVec.ofNat 32 c))) keys i = 0 := by
  show upperOf (bitOf lanes s) i * greater (partnerOf keys (flipLane (BitVec.ofNat 32 c))) keys i
    + (Ideal.ofBits .f32 0x3F800000#32 - upperOf (bitOf lanes s) i)
      * greater keys (partnerOf keys (flipLane (BitVec.ofNat 32 c))) i = 0
  rw [upperOf_apply b s hs i, bits_one]
  rcases Nat.mod_two_eq_zero_or_one ((i 1).val / 2 ^ b) with h | h
  · have hle := keyAt_mono ((hup _ (i 1).isLt).2 h)
    rw [h, greater_of_le keys _ i (by rw [partnerOf_keys c hc]; exact hle)]
    norm_num
  · have hle := keyAt_mono ((hup _ (i 1).isLt).1 h)
    rw [h, greater_of_le _ keys i (by rw [partnerOf_keys c hc]; exact hle)]
    have : (1 : EReal) - (((1 : ℕ) : ℝ) : EReal) = 0 := by
      rw [Nat.cast_one, EReal.coe_one, ← EReal.coe_one, ← EReal.coe_sub]; norm_num
    rw [this]; norm_num

/-- So a stage keeps whatever vector its lanes carry. -/
theorem stage_keeps (c b : ℕ) (hc : c < 128) (s : Ideal .f32) (hs : s = (((2 : ℝ) ^ b)⁻¹ : ℝ))
    (hup : ∀ n < 128, (n / 2 ^ b % 2 = 1 → n ^^^ c ≤ n) ∧ (n / 2 ^ b % 2 = 0 → n ≤ n ^^^ c)) (x y : FVec Ideal S8x128 .f32) :
    blend (swapOf (upperOf (bitOf lanes s)) (partnerOf keys (flipLane (BitVec.ofNat 32 c))) keys) x y = y := by
  funext i
  show swapOf _ _ _ i * x i + (Ideal.ofBits .f32 0x3F800000#32 - swapOf _ _ _ i) * y i = y i
  rw [swapOf_keys c b hc s hs hup i, bits_one]
  simp

end Cert.KernelIdeal.Hand

end
-- ==== Proof.KernelKey.lean ====
/-
  The keys the kernel sorts by.

  The kernel computes the squared length of each point twice: by a tree of rolled slabs (`rolled_sum`) and as the diagonal of the product of
  the points with their own transpose. Both are the same sum, so the squared distance of a point to itself is zero, its weight is one, and
  the normalised graph's diagonal entry is zero. The keys are therefore zero on the hundred points' lanes and one large number past them.
-/
module

public import proofs.«01_k».proof.Proof.KernelSort
public import proofs.«01_k».proof.Proof.Gen.KernelIdeal.Frame

@[expose] public section

noncomputable section

namespace Cert.KernelIdeal.Hand

open Cert.KernelIdeal Cert.KernelIdeal.Gen Idealize.ShloMosaic Idealize.ShloMosaic.TcCoe

/-! ## The rolled sum -/

/-- The sum of the entries a half apart. -/
def sq (f : ℕ → EReal) (r : ℕ) : EReal := f (128 + r) + f r

/-- The sum over the sixteen slabs of eight. -/
def slab (f : ℕ → EReal) (q : ℕ) : EReal :=
  sq f q + sq f (8 + q) + sq f (16 + q) + sq f (24 + q) + sq f (32 + q) + sq f (40 + q) + sq f (48 + q) + sq f (56 + q) + sq f (64 + q) + sq f (72 + q) + sq f (80 + q) + sq f (88 + q) + sq f (96 + q) + sq f (104 + q) + sq f (112 + q) + sq f (120 + q)

theorem rolled_sum (f : ℕ → EReal) :
    slab f 7 + slab f 3 + (slab f 5 + slab f 1) + (slab f 6 + slab f 2 + (slab f 4 + slab f 0)) = ∑ k ∈ Finset.range 256, f k := by
  have h : ∑ k ∈ Finset.range 256, f k = ∑ r ∈ Finset.range 128, sq f r := by
    rw [show (256 : ℕ) = 128 + 128 from rfl, Finset.sum_range_add, add_comm, ← Finset.sum_add_distrib]
    rfl
  rw [h]
  simp only [Finset.sum_range_succ, Finset.sum_range_zero, slab, Nat.reduceAdd]
  abel

theorem pay7_apply (x : Vec Ideal S100x256 .f32) (n : Fin 100) :
    k0_pay7 x (ix2 0 n) = ∑ k : Fin 256, x (ix2 n k) * x (ix2 n k) := by
  have h := rolled_sum fun k => x (ix2 n (Fin.ofNat 256 k)) * x (ix2 n (Fin.ofNat 256 k))
  rw [← Fin.sum_univ_eq_sum_range (fun k => x (ix2 n (Fin.ofNat 256 k)) * x (ix2 n (Fin.ofNat 256 k)))] at h
  have hk : ∀ k : Fin 256, Fin.ofNat 256 k.val = k := fun k => Fin.ext (Nat.mod_eq_of_lt k.isLt)
  simp only [hk] at h
  rw [← h]
  pointwise [k0_pay7]
  rfl

theorem pay8_apply (x : Vec Ideal S100x256 .f32) (n n' : Fin 100) :
    k0_pay8 x (ix2 n n') = ∑ k : Fin 256, x (ix2 n k) * x (ix2 n' k) := by
  pointwise [k0_pay8, dot_S100x256_S256x100_S100x100_1_0_0_1_n_n]

/-! ## The lanes that hold a point -/

theorem half_off : Ideal.ofBits .f32 0x42C80000#32 - Ideal.ofBits .f32 0x3F000000#32 = ((99.5 : ℝ) : EReal) := by
  have h1 : Ideal.ofBits .f32 0x42C80000#32 = ((100 : ℝ) : EReal) := by
    simp [Ideal.ofBits, Ideal.ieee, -EReal.coe_mul]; norm_num
  have h2 : Ideal.ofBits .f32 0x3F000000#32 = ((0.5 : ℝ) : EReal) := by
    simp [Ideal.ofBits, Ideal.ieee, -EReal.coe_mul]; norm_num
  rw [h1, h2, ← EReal.coe_sub]; norm_num

/-- 1 on the points' lanes, 0 past them. -/
theorem valid_apply (i : Fin 8) (n : Fin 128) : kernelRun0_A.sl.r (F := Ideal) (ix2 i n) = if n.val < 100 then 1 else 0 := by
  have h : kernelRun0_A.sl.r (F := Ideal) (ix2 i n) = Ideal.sign (max (((99.5 : ℝ) : EReal) - ((n.val : ℝ) : EReal)) 0) := by
    have hs := Ideal.jnp_sign_eq_sign_f32 (max (((99.5 : ℝ) : EReal) - ((n.val : ℝ) : EReal)) 0)
    rw [← hs, ← half_off]
    unfold kernelRun0_A.sl.r kernelRun0_A.sl.cst_8
    pointwise [k0_pay6, k0_pay5, k0_pay4, k0_pay3, lanes_eq, lanes]
  rw [h, ← EReal.coe_sub]
  split_ifs with hn
  · apply Ideal.sign_of_pos
    apply lt_max_of_lt_left
    have h99 : (n.val : ℝ) ≤ 99 := by exact_mod_cast Nat.lt_succ_iff.1 hn
    exact EReal.coe_pos.2 (by linarith)
  · rw [max_eq_right, Ideal.sign_zero]
    have h100 : (100 : ℝ) ≤ n.val := by exact_mod_cast not_lt.1 hn
    exact EReal.coe_nonpos.2 (by linarith)

/-! ## The keys -/

theorem add_self_sub (s : EReal) : max (s + s - Ideal.ofBits .f32 0x40000000#32 * s) 0 = 0 := by
  rw [bits_two]
  induction s with
  | bot => rw [EReal.coe_mul_bot_of_pos two_pos]; simp
  | top => rw [EReal.coe_mul_top_of_pos two_pos]; simp
  | coe r =>
    rw [← EReal.coe_add, ← EReal.coe_mul, ← EReal.coe_sub, show r + r - 2 * r = 0 by ring]
    simp

theorem one_sub_one : (1 : EReal) - 1 = 0 := by rw [← EReal.coe_one, ← EReal.coe_sub, sub_self, EReal.coe_zero]

/-- The normalised graph's diagonal entry: the point's own weight is one, and so is its degree. -/
theorem diagonal_entry :
    1 - Ideal.rsqrt (max (Ideal.exp (Ideal.div (0 - 0) (Ideal.ofBits .f32 1057448125#32)) * FloatOps.sitofp (F := Ideal) .f32
          (BitVec.setWidth 32 (BitVec.ofBool (decide (Ideal.sqrt 0 ≤ Ideal.ofBits .f32 1060776391#32))))) (Ideal.ofBits .f32 730643660#32))
        * (Ideal.exp (Ideal.div (0 - 0) (Ideal.ofBits .f32 1057448125#32)) * FloatOps.sitofp (F := Ideal) .f32
          (BitVec.setWidth 32 (BitVec.ofBool (decide (Ideal.sqrt 0 ≤ Ideal.ofBits .f32 1060776391#32)))))
        * Ideal.rsqrt (max (Ideal.exp (Ideal.div (0 - 0) (Ideal.ofBits .f32 1057448125#32)) * FloatOps.sitofp (F := Ideal) .f32
          (BitVec.setWidth 32 (BitVec.ofBool (decide (Ideal.sqrt 0 ≤ Ideal.ofBits .f32 1060776391#32))))) (Ideal.ofBits .f32 730643660#32))
      = 0 := by
  have hc : ∃ r : ℝ, 0 < r ∧ Ideal.ofBits .f32 1057448125#32 = ((r : ℝ) : EReal) := by
    refine ⟨_, ?_, by simp only [Ideal.ofBits, Ideal.ieee]; rfl⟩
    norm_num
    rw [if_neg (by decide)]
    positivity
  have hr : ∃ r : ℝ, 0 < r ∧ Ideal.ofBits .f32 1060776391#32 = ((r : ℝ) : EReal) := by
    refine ⟨_, ?_, by simp only [Ideal.ofBits, Ideal.ieee]; rfl⟩
    norm_num
    rw [if_neg (by decide)]
    positivity
  have he : Ideal.ofBits .f32 730643660#32 ≤ 1 := by
    simp [Ideal.ofBits, Ideal.ieee, -EReal.coe_mul]
    norm_num
    rw [← EReal.coe_one, EReal.coe_le_coe_iff]
    norm_num
  obtain ⟨c, hc0, hc⟩ := hc
  obtain ⟨r, hr0, hr⟩ := hr
  have hexp : Ideal.exp (Ideal.div (0 - 0) (Ideal.ofBits .f32 1057448125#32)) = 1 := by
    rw [hc, sub_zero, Ideal.div, if_neg (by exact_mod_cast hc0.ne'), zero_mul, ← EReal.coe_zero, Ideal.exp_coe, Real.exp_zero, EReal.coe_one]
  have hsq : Ideal.sqrt 0 ≤ Ideal.ofBits .f32 1060776391#32 := by
    rw [hr, ← EReal.coe_zero, Ideal.sqrt_coe]
    simp [hr0.le]
  have hrs : Ideal.rsqrt 1 = 1 := by
    rw [← EReal.coe_one, Ideal.rsqrt_coe]
    simp
  have hsi : FloatOps.sitofp (F := Ideal) .f32 (BitVec.setWidth 32 (BitVec.ofBool true)) = (1 : EReal) := by
    show (((BitVec.setWidth 32 (BitVec.ofBool true)).toInt : ℝ) : EReal) = 1
    rw [show (BitVec.setWidth 32 (BitVec.ofBool true)).toInt = 1 from by decide]
    simp
  rw [hexp, decide_eq_true hsq, hsi, one_mul, max_eq_left he, hrs, one_mul, one_mul]
  exact one_sub_one

theorem keys_apply (x : Vec Ideal S100x256 .f32) (i : Fin 8) (n : Fin 128) :
    k0_pay9 kernelRun0_A.sl.r (k0_pay7 x) (k0_pay8 x) kernelRun0_A.sl.v92 kernelRun0_A.sl.v93 (ix2 i n) = keyAt n.val := by
  have hdiag : ∀ l : Fin 100, ∑ x_1 : Fin 100, Scalar.select (IntOp.cmpi .eq (kernelRun0_A.sl.v92 (ix2 x_1 l)) (kernelRun0_A.sl.v93 (ix2 x_1 l)))
      (k0_pay8 x (ix2 x_1 l)) (0 : EReal) = k0_pay7 x (ix2 0 l) := by
    intro l
    rw [Finset.sum_eq_single l]
    · rw [pay8_apply, pay7_apply]
      unfold kernelRun0_A.sl.v92 kernelRun0_A.sl.v93
      pointwise
    · intro b _ hb
      unfold kernelRun0_A.sl.v92 kernelRun0_A.sl.v93
      pointwise
      have hne : BitVec.ofNat 32 b.val ≠ BitVec.ofNat 32 l.val := fun h => hb (Fin.ext (by
        have := congrArg BitVec.toNat h
        simp only [BitVec.toNat_ofNat] at this
        have hb' := b.isLt
        have hl' := l.isLt
        omega))
      have hbeq := beq_eq_false_iff_ne.2 hne
      simp [IntOp.cmpi, Scalar.select, hbeq]
    · intro h; exact absurd (Finset.mem_univ l) h
  have h2 : ∀ s : EReal, max (s + s - Ideal.ofBits .f32 1073741824#32 * s) 0 = 0 := add_self_sub
  pointwise [k0_pay9]
  simp only [hdiag, h2, diagonal_entry, valid_apply, keyAt]
  split_ifs
  · rw [zero_mul, mul_zero, zero_add, one_sub_one, zero_mul]
  · rw [zero_mul, zero_add, sub_zero, one_mul]
    rfl

theorem r_3_eq (c : Dev nD) (arg6 : Memref sig .tc .vmem S100x256 .f32) (fh0 : HbBuf0 (F := Ideal) c hbM0_0) :
    kernelRun0_A.sl.r_3 (F := Ideal) c arg6 fh0 = keys := by
  funext i
  rw [← ix2_eta i]
  exact keys_apply _ _ _

end Cert.KernelIdeal.Hand

end
-- ==== Proof.KernelStage.lean ====
/-
  The twenty-eight stages of the kernel's sorting network, one value after another.

  Each pair of a distance `c` (the bits flipped to reach the partner) and a direction bit that the network uses: the keys stay where they are.
-/
module

public import proofs.«01_k».proof.Proof.KernelSort

@[expose] public section

set_option maxRecDepth 16384

noncomputable section

namespace Cert.KernelIdeal.Hand

open Cert.KernelIdeal Cert.KernelIdeal.Gen Idealize.ShloMosaic Idealize.ShloMosaic.TcCoe

theorem bits_pow_0 : Scalar.ofBits (F := Ideal) .f32 0x3F800000#32 = ((((2 : ℝ) ^ 0)⁻¹ : ℝ) : EReal) := by
  show Ideal.ofBits .f32 0x3F800000#32 = _
  simp [Ideal.ofBits, Ideal.ieee, -EReal.coe_mul]; norm_num

theorem bits_pow_1 : Scalar.ofBits (F := Ideal) .f32 0x3F000000#32 = ((((2 : ℝ) ^ 1)⁻¹ : ℝ) : EReal) := by
  show Ideal.ofBits .f32 0x3F000000#32 = _
  simp [Ideal.ofBits, Ideal.ieee, -EReal.coe_mul]; norm_num

theorem bits_pow_2 : Scalar.ofBits (F := Ideal) .f32 0x3E800000#32 = ((((2 : ℝ) ^ 2)⁻¹ : ℝ) : EReal) := by
  show Ideal.ofBits .f32 0x3E800000#32 = _
  simp [Ideal.ofBits, Ideal.ieee, -EReal.coe_mul]; norm_num

theorem bits_pow_3 : Scalar.ofBits (F := Ideal) .f32 0x3E000000#32 = ((((2 : ℝ) ^ 3)⁻¹ : ℝ) : EReal) := by
  show Ideal.ofBits .f32 0x3E000000#32 = _
  simp [Ideal.ofBits, Ideal.ieee, -EReal.coe_mul]; norm_num

theorem bits_pow_4 : Scalar.ofBits (F := Ideal) .f32 0x3D800000#32 = ((((2 : ℝ) ^ 4)⁻¹ : ℝ) : EReal) := by
  show Ideal.ofBits .f32 0x3D800000#32 = _
  simp [Ideal.ofBits, Ideal.ieee, -EReal.coe_mul]; norm_num

theorem bits_pow_5 : Scalar.ofBits (F := Ideal) .f32 0x3D000000#32 = ((((2 : ℝ) ^ 5)⁻¹ : ℝ) : EReal) := by
  show Ideal.ofBits .f32 0x3D000000#32 = _
  simp [Ideal.ofBits, Ideal.ieee, -EReal.coe_mul]; norm_num

theorem bits_pow_6 : Scalar.ofBits (F := Ideal) .f32 0x3C800000#32 = ((((2 : ℝ) ^ 6)⁻¹ : ℝ) : EReal) := by
  show Ideal.ofBits .f32 0x3C800000#32 = _
  simp [Ideal.ofBits, Ideal.ieee, -EReal.coe_mul]; norm_num

theorem stage_1 (x y : FVec Ideal S8x128 .f32) :
    blend (swapOf (upperOf (bitOf lanes (Scalar.ofBits (F := Ideal) .f32 0x3F800000#32))) (partnerOf keys (flipLane 1#32)) keys) x y = y :=
  stage_keeps 1 0 (by decide) _ (bits_pow_0) (by decide) x y

theorem stage_2 (x y : FVec Ideal S8x128 .f32) :
    blend (swapOf (upperOf (bitOf lanes (Scalar.ofBits (F := Ideal) .f32 0x3F000000#32))) (partnerOf keys (flipLane 2#32)) keys) x y = y :=
  stage_keeps 2 1 (by decide) _ (bits_pow_1) (by decide) x y

theorem stage_3 (x y : FVec Ideal S8x128 .f32) :
    blend (swapOf (upperOf (bitOf lanes (Scalar.ofBits (F := Ideal) .f32 0x3F000000#32))) (partnerOf keys (flipLane 3#32)) keys) x y = y :=
  stage_keeps 3 1 (by decide) _ (bits_pow_1) (by decide) x y

theorem stage_4 (x y : FVec Ideal S8x128 .f32) :
    blend (swapOf (upperOf (bitOf lanes (Scalar.ofBits (F := Ideal) .f32 0x3E800000#32))) (partnerOf keys (flipLane 4#32)) keys) x y = y :=
  stage_keeps 4 2 (by decide) _ (bits_pow_2) (by decide) x y

theorem stage_7 (x y : FVec Ideal S8x128 .f32) :
    blend (swapOf (upperOf (bitOf lanes (Scalar.ofBits (F := Ideal) .f32 0x3E800000#32))) (partnerOf keys (flipLane 7#32)) keys) x y = y :=
  stage_keeps 7 2 (by decide) _ (bits_pow_2) (by decide) x y

theorem stage_8 (x y : FVec Ideal S8x128 .f32) :
    blend (swapOf (upperOf (bitOf lanes (Scalar.ofBits (F := Ideal) .f32 0x3E000000#32))) (partnerOf keys (flipLane 8#32)) keys) x y = y :=
  stage_keeps 8 3 (by decide) _ (bits_pow_3) (by decide) x y

theorem stage_15 (x y : FVec Ideal S8x128 .f32) :
    blend (swapOf (upperOf (bitOf lanes (Scalar.ofBits (F := Ideal) .f32 0x3E000000#32))) (partnerOf keys (flipLane 15#32)) keys) x y = y :=
  stage_keeps 15 3 (by decide) _ (bits_pow_3) (by decide) x y

theorem stage_16 (x y : FVec Ideal S8x128 .f32) :
    blend (swapOf (upperOf (bitOf lanes (Scalar.ofBits (F := Ideal) .f32 0x3D800000#32))) (partnerOf keys (flipLane 16#32)) keys) x y = y :=
  stage_keeps 16 4 (by decide) _ (bits_pow_4) (by decide) x y

theorem stage_31 (x y : FVec Ideal S8x128 .f32) :
    blend (swapOf (upperOf (bitOf lanes (Scalar.ofBits (F := Ideal) .f32 0x3D800000#32))) (partnerOf keys (flipLane 31#32)) keys) x y = y :=
  stage_keeps 31 4 (by decide) _ (bits_pow_4) (by decide) x y

theorem stage_32 (x y : FVec Ideal S8x128 .f32) :
    blend (swapOf (upperOf (bitOf lanes (Scalar.ofBits (F := Ideal) .f32 0x3D000000#32))) (partnerOf keys (flipLane 32#32)) keys) x y = y :=
  stage_keeps 32 5 (by decide) _ (bits_pow_5) (by decide) x y

theorem stage_63 (x y : FVec Ideal S8x128 .f32) :
    blend (swapOf (upperOf (bitOf lanes (Scalar.ofBits (F := Ideal) .f32 0x3D000000#32))) (partnerOf keys (flipLane 63#32)) keys) x y = y :=
  stage_keeps 63 5 (by decide) _ (bits_pow_5) (by decide) x y

theorem stage_127 (x y : FVec Ideal S8x128 .f32) :
    blend (swapOf (upperOf (bitOf lanes (Scalar.ofBits (F := Ideal) .f32 0x3C800000#32))) (partnerOf keys (flipLane 127#32)) keys) x y = y :=
  stage_keeps 127 6 (by decide) _ (bits_pow_6) (by decide) x y

end Cert.KernelIdeal.Hand

end
-- ==== Proof.KernelChain.lean ====
/-
  The twenty-eight stages of the kernel's sorting network, one value after another.

  The values the run names, in order: the keys, the lane numbers they carry, and the partner, bit and swap vectors between them.
-/
module

public import proofs.«01_k».proof.Proof.KernelKey
public import proofs.«01_k».proof.Proof.KernelStage

@[expose] public section

set_option maxRecDepth 16384

noncomputable section

namespace Cert.KernelIdeal.Hand

open Cert.KernelIdeal Cert.KernelIdeal.Gen Idealize.ShloMosaic Idealize.ShloMosaic.TcCoe

theorem r_4_eq (c : Dev nD) (arg6 : Memref sig .tc .vmem S100x256 .f32) (fh0 : HbBuf0 (F := Ideal) c hbM0_0) :
    kernelRun0_A.sl.r_4 (F := Ideal) c arg6 fh0 = partnerOf keys (flipLane 1#32) := by
  unfold kernelRun0_A.sl.r_4
  simp only [r_3_eq]
  rfl

theorem r_5_eq :
    kernelRun0_A.sl.r_5 (F := Ideal) = partnerOf lanes (flipLane 1#32) := by
  unfold kernelRun0_A.sl.r_5
  simp only [lanes_eq]
  rfl

theorem r_6_eq :
    kernelRun0_A.sl.r_6 (F := Ideal) = upperOf (bitOf lanes (Scalar.ofBits (F := Ideal) .f32 0x3F800000#32)) := by
  unfold kernelRun0_A.sl.r_6
  simp only [lanes_eq]
  rfl

theorem r_7_eq (c : Dev nD) (arg6 : Memref sig .tc .vmem S100x256 .f32) (fh0 : HbBuf0 (F := Ideal) c hbM0_0) :
    kernelRun0_A.sl.r_7 (F := Ideal) c arg6 fh0 = greater (partnerOf keys (flipLane 1#32)) keys := by
  unfold kernelRun0_A.sl.r_7
  simp only [r_3_eq]
  rfl

theorem r_8_eq (c : Dev nD) (arg6 : Memref sig .tc .vmem S100x256 .f32) (fh0 : HbBuf0 (F := Ideal) c hbM0_0) :
    kernelRun0_A.sl.r_8 (F := Ideal) c arg6 fh0 = keys := by
  unfold kernelRun0_A.sl.r_8
  simp only [r_3_eq, r_4_eq, r_6_eq, r_7_eq]
  refine Eq.trans (b := blend (swapOf (upperOf (bitOf lanes (Scalar.ofBits (F := Ideal) .f32 0x3F800000#32))) (partnerOf keys (flipLane 1#32)) keys) (partnerOf keys (flipLane 1#32)) keys) rfl ?_
  simp only [stage_1]

theorem r_9_eq (c : Dev nD) (arg6 : Memref sig .tc .vmem S100x256 .f32) (fh0 : HbBuf0 (F := Ideal) c hbM0_0) :
    kernelRun0_A.sl.r_9 (F := Ideal) c arg6 fh0 = lanes := by
  unfold kernelRun0_A.sl.r_9
  simp only [lanes_eq, r_3_eq, r_4_eq, r_5_eq, r_6_eq, r_7_eq]
  refine Eq.trans (b := blend (swapOf (upperOf (bitOf lanes (Scalar.ofBits (F := Ideal) .f32 0x3F800000#32))) (partnerOf keys (flipLane 1#32)) keys) (partnerOf lanes (flipLane 1#32)) lanes) rfl ?_
  simp only [stage_1]

theorem r_10_eq (c : Dev nD) (arg6 : Memref sig .tc .vmem S100x256 .f32) (fh0 : HbBuf0 (F := Ideal) c hbM0_0) :
    kernelRun0_A.sl.r_10 (F := Ideal) c arg6 fh0 = partnerOf keys (flipLane 3#32) := by
  unfold kernelRun0_A.sl.r_10
  simp only [r_3_eq, r_4_eq, r_6_eq, r_7_eq]
  refine Eq.trans (b := partnerOf (blend (swapOf (upperOf (bitOf lanes (Scalar.ofBits (F := Ideal) .f32 0x3F800000#32))) (partnerOf keys (flipLane 1#32)) keys) (partnerOf keys (flipLane 1#32)) keys) (flipLane 3#32)) rfl ?_
  simp only [stage_1]

theorem r_11_eq (c : Dev nD) (arg6 : Memref sig .tc .vmem S100x256 .f32) (fh0 : HbBuf0 (F := Ideal) c hbM0_0) :
    kernelRun0_A.sl.r_11 (F := Ideal) c arg6 fh0 = partnerOf lanes (flipLane 3#32) := by
  unfold kernelRun0_A.sl.r_11
  simp only [lanes_eq, r_3_eq, r_4_eq, r_5_eq, r_6_eq, r_7_eq]
  refine Eq.trans (b := partnerOf (blend (swapOf (upperOf (bitOf lanes (Scalar.ofBits (F := Ideal) .f32 0x3F800000#32))) (partnerOf keys (flipLane 1#32)) keys) (partnerOf lanes (flipLane 1#32)) lanes) (flipLane 3#32)) rfl ?_
  simp only [stage_1]

theorem r_12_eq (c : Dev nD) (arg6 : Memref sig .tc .vmem S100x256 .f32) (fh0 : HbBuf0 (F := Ideal) c hbM0_0) :
    kernelRun0_A.sl.r_12 (F := Ideal) c arg6 fh0 = swapOf (upperOf (bitOf lanes (Scalar.ofBits (F := Ideal) .f32 0x3F000000#32))) (partnerOf keys (flipLane 3#32)) keys := by
  unfold kernelRun0_A.sl.r_12
  simp only [lanes_eq, r_8_eq, r_10_eq]
  rfl

theorem r_13_eq (c : Dev nD) (arg6 : Memref sig .tc .vmem S100x256 .f32) (fh0 : HbBuf0 (F := Ideal) c hbM0_0) :
    kernelRun0_A.sl.r_13 (F := Ideal) c arg6 fh0 = mulf (swapOf (upperOf (bitOf lanes (Scalar.ofBits (F := Ideal) .f32 0x3F000000#32))) (partnerOf keys (flipLane 3#32)) keys) (partnerOf keys (flipLane 3#32)) := by
  unfold kernelRun0_A.sl.r_13
  simp only [lanes_eq, r_8_eq, r_10_eq]
  rfl

theorem r_14_eq (c : Dev nD) (arg6 : Memref sig .tc .vmem S100x256 .f32) (fh0 : HbBuf0 (F := Ideal) c hbM0_0) :
    kernelRun0_A.sl.r_14 (F := Ideal) c arg6 fh0 = subf (broadcast S8x128 (Scalar.ofBits (F := Ideal) .f32 0x3F800000#32)) (swapOf (upperOf (bitOf lanes (Scalar.ofBits (F := Ideal) .f32 0x3F000000#32))) (partnerOf keys (flipLane 3#32)) keys) := by
  unfold kernelRun0_A.sl.r_14
  simp only [lanes_eq, r_8_eq, r_10_eq]
  rfl

theorem r_15_eq (c : Dev nD) (arg6 : Memref sig .tc .vmem S100x256 .f32) (fh0 : HbBuf0 (F := Ideal) c hbM0_0) :
    kernelRun0_A.sl.r_15 (F := Ideal) c arg6 fh0 = keys := by
  unfold kernelRun0_A.sl.r_15
  simp only [r_8_eq, r_13_eq, r_14_eq]
  refine Eq.trans (b := blend (swapOf (upperOf (bitOf lanes (Scalar.ofBits (F := Ideal) .f32 0x3F000000#32))) (partnerOf keys (flipLane 3#32)) keys) (partnerOf keys (flipLane 3#32)) keys) rfl ?_
  simp only [stage_3]

theorem r_16_eq (c : Dev nD) (arg6 : Memref sig .tc .vmem S100x256 .f32) (fh0 : HbBuf0 (F := Ideal) c hbM0_0) :
    kernelRun0_A.sl.r_16 (F := Ideal) c arg6 fh0 = lanes := by
  unfold kernelRun0_A.sl.r_16
  simp only [r_9_eq, r_11_eq, r_12_eq]
  refine Eq.trans (b := blend (swapOf (upperOf (bitOf lanes (Scalar.ofBits (F := Ideal) .f32 0x3F000000#32))) (partnerOf keys (flipLane 3#32)) keys) (partnerOf lanes (flipLane 3#32)) lanes) rfl ?_
  simp only [stage_3]

theorem r_17_eq (c : Dev nD) (arg6 : Memref sig .tc .vmem S100x256 .f32) (fh0 : HbBuf0 (F := Ideal) c hbM0_0) :
    kernelRun0_A.sl.r_17 (F := Ideal) c arg6 fh0 = partnerOf keys (flipLane 1#32) := by
  unfold kernelRun0_A.sl.r_17
  simp only [r_8_eq, r_13_eq, r_14_eq]
  refine Eq.trans (b := partnerOf (blend (swapOf (upperOf (bitOf lanes (Scalar.ofBits (F := Ideal) .f32 0x3F000000#32))) (partnerOf keys (flipLane 3#32)) keys) (partnerOf keys (flipLane 3#32)) keys) (flipLane 1#32)) rfl ?_
  simp only [stage_3]

theorem r_18_eq (c : Dev nD) (arg6 : Memref sig .tc .vmem S100x256 .f32) (fh0 : HbBuf0 (F := Ideal) c hbM0_0) :
    kernelRun0_A.sl.r_18 (F := Ideal) c arg6 fh0 = partnerOf lanes (flipLane 1#32) := by
  unfold kernelRun0_A.sl.r_18
  simp only [r_9_eq, r_11_eq, r_12_eq]
  refine Eq.trans (b := partnerOf (blend (swapOf (upperOf (bitOf lanes (Scalar.ofBits (F := Ideal) .f32 0x3F000000#32))) (partnerOf keys (flipLane 3#32)) keys) (partnerOf lanes (flipLane 3#32)) lanes) (flipLane 1#32)) rfl ?_
  simp only [stage_3]

theorem r_19_eq :
    kernelRun0_A.sl.r_19 (F := Ideal) = upperOf (bitOf lanes (Scalar.ofBits (F := Ideal) .f32 0x3F800000#32)) := by
  unfold kernelRun0_A.sl.r_19
  simp only [lanes_eq]
  rfl

theorem r_20_eq (c : Dev nD) (arg6 : Memref sig .tc .vmem S100x256 .f32) (fh0 : HbBuf0 (F := Ideal) c hbM0_0) :
    kernelRun0_A.sl.r_20 (F := Ideal) c arg6 fh0 = subf (partnerOf keys (flipLane 1#32)) keys := by
  unfold kernelRun0_A.sl.r_20
  simp only [r_8_eq, r_13_eq, r_14_eq]
  refine Eq.trans (b := subf (partnerOf (blend (swapOf (upperOf (bitOf lanes (Scalar.ofBits (F := Ideal) .f32 0x3F000000#32))) (partnerOf keys (flipLane 3#32)) keys) (partnerOf keys (flipLane 3#32)) keys) (flipLane 1#32)) (blend (swapOf (upperOf (bitOf lanes (Scalar.ofBits (F := Ideal) .f32 0x3F000000#32))) (partnerOf keys (flipLane 3#32)) keys) (partnerOf keys (flipLane 3#32)) keys)) rfl ?_
  simp only [stage_3]

theorem r_21_eq (c : Dev nD) (arg6 : Memref sig .tc .vmem S100x256 .f32) (fh0 : HbBuf0 (F := Ideal) c hbM0_0) :
    kernelRun0_A.sl.r_21 (F := Ideal) c arg6 fh0 = keys := by
  unfold kernelRun0_A.sl.r_21
  simp only [r_15_eq, r_17_eq, r_19_eq, r_20_eq]
  refine Eq.trans (b := blend (swapOf (upperOf (bitOf lanes (Scalar.ofBits (F := Ideal) .f32 0x3F800000#32))) (partnerOf keys (flipLane 1#32)) keys) (partnerOf keys (flipLane 1#32)) keys) rfl ?_
  simp only [stage_1]

theorem r_22_eq (c : Dev nD) (arg6 : Memref sig .tc .vmem S100x256 .f32) (fh0 : HbBuf0 (F := Ideal) c hbM0_0) :
    kernelRun0_A.sl.r_22 (F := Ideal) c arg6 fh0 = lanes := by
  unfold kernelRun0_A.sl.r_22
  simp only [r_15_eq, r_16_eq, r_17_eq, r_18_eq, r_19_eq, r_20_eq]
  refine Eq.trans (b := blend (swapOf (upperOf (bitOf lanes (Scalar.ofBits (F := Ideal) .f32 0x3F800000#32))) (partnerOf keys (flipLane 1#32)) keys) (partnerOf lanes (flipLane 1#32)) lanes) rfl ?_
  simp only [stage_1]

theorem r_23_eq (c : Dev nD) (arg6 : Memref sig .tc .vmem S100x256 .f32) (fh0 : HbBuf0 (F := Ideal) c hbM0_0) :
    kernelRun0_A.sl.r_23 (F := Ideal) c arg6 fh0 = partnerOf keys (flipLane 7#32) := by
  unfold kernelRun0_A.sl.r_23
  simp only [r_15_eq, r_17_eq, r_19_eq, r_20_eq]
  refine Eq.trans (b := partnerOf (blend (swapOf (upperOf (bitOf lanes (Scalar.ofBits (F := Ideal) .f32 0x3F800000#32))) (partnerOf keys (flipLane 1#32)) keys) (partnerOf keys (flipLane 1#32)) keys) (flipLane 7#32)) rfl ?_
  simp only [stage_1]

theorem r_24_eq (c : Dev nD) (arg6 : Memref sig .tc .vmem S100x256 .f32) (fh0 : HbBuf0 (F := Ideal) c hbM0_0) :
    kernelRun0_A.sl.r_24 (F := Ideal) c arg6 fh0 = partnerOf lanes (flipLane 7#32) := by
  unfold kernelRun0_A.sl.r_24
  simp only [r_22_eq]
  rfl

theorem r_25_eq (c : Dev nD) (arg6 : Memref sig .tc .vmem S100x256 .f32) (fh0 : HbBuf0 (F := Ideal) c hbM0_0) :
    kernelRun0_A.sl.r_25 (F := Ideal) c arg6 fh0 = mulf (upperOf (bitOf lanes (Scalar.ofBits (F := Ideal) .f32 0x3E800000#32))) (greater (partnerOf keys (flipLane 7#32)) keys) := by
  unfold kernelRun0_A.sl.r_25
  simp only [lanes_eq, r_21_eq, r_23_eq]
  rfl

theorem r_26_eq :
    kernelRun0_A.sl.r_26 (F := Ideal) = subf (broadcast S8x128 (Scalar.ofBits (F := Ideal) .f32 0x3F800000#32)) (upperOf (bitOf lanes (Scalar.ofBits (F := Ideal) .f32 0x3E800000#32))) := by
  unfold kernelRun0_A.sl.r_26
  simp only [lanes_eq]
  rfl

theorem r_27_eq (c : Dev nD) (arg6 : Memref sig .tc .vmem S100x256 .f32) (fh0 : HbBuf0 (F := Ideal) c hbM0_0) :
    kernelRun0_A.sl.r_27 (F := Ideal) c arg6 fh0 = maximumf (subf keys (partnerOf keys (flipLane 7#32))) (broadcast S8x128 (Scalar.ofBits (F := Ideal) .f32 0x00000000#32)) := by
  unfold kernelRun0_A.sl.r_27
  simp only [r_21_eq, r_23_eq]
  rfl

theorem r_28_eq (c : Dev nD) (arg6 : Memref sig .tc .vmem S100x256 .f32) (fh0 : HbBuf0 (F := Ideal) c hbM0_0) :
    kernelRun0_A.sl.r_28 (F := Ideal) c arg6 fh0 = keys := by
  unfold kernelRun0_A.sl.r_28
  simp only [r_21_eq, r_23_eq, r_25_eq, r_26_eq, r_27_eq]
  refine Eq.trans (b := blend (swapOf (upperOf (bitOf lanes (Scalar.ofBits (F := Ideal) .f32 0x3E800000#32))) (partnerOf keys (flipLane 7#32)) keys) (partnerOf keys (flipLane 7#32)) keys) rfl ?_
  simp only [stage_7]

theorem r_29_eq (c : Dev nD) (arg6 : Memref sig .tc .vmem S100x256 .f32) (fh0 : HbBuf0 (F := Ideal) c hbM0_0) :
    kernelRun0_A.sl.r_29 (F := Ideal) c arg6 fh0 = lanes := by
  unfold kernelRun0_A.sl.r_29
  simp only [r_22_eq, r_24_eq, r_25_eq, r_26_eq, r_27_eq]
  refine Eq.trans (b := blend (swapOf (upperOf (bitOf lanes (Scalar.ofBits (F := Ideal) .f32 0x3E800000#32))) (partnerOf keys (flipLane 7#32)) keys) (partnerOf lanes (flipLane 7#32)) lanes) rfl ?_
  simp only [stage_7]

theorem r_30_eq (c : Dev nD) (arg6 : Memref sig .tc .vmem S100x256 .f32) (fh0 : HbBuf0 (F := Ideal) c hbM0_0) :
    kernelRun0_A.sl.r_30 (F := Ideal) c arg6 fh0 = partnerOf keys (flipLane 2#32) := by
  unfold kernelRun0_A.sl.r_30
  simp only [r_21_eq, r_23_eq, r_25_eq, r_26_eq, r_27_eq]
  refine Eq.trans (b := partnerOf (blend (swapOf (upperOf (bitOf lanes (Scalar.ofBits (F := Ideal) .f32 0x3E800000#32))) (partnerOf keys (flipLane 7#32)) keys) (partnerOf keys (flipLane 7#32)) keys) (flipLane 2#32)) rfl ?_
  simp only [stage_7]

theorem r_31_eq (c : Dev nD) (arg6 : Memref sig .tc .vmem S100x256 .f32) (fh0 : HbBuf0 (F := Ideal) c hbM0_0) :
    kernelRun0_A.sl.r_31 (F := Ideal) c arg6 fh0 = partnerOf lanes (flipLane 2#32) := by
  unfold kernelRun0_A.sl.r_31
  simp only [r_22_eq, r_24_eq, r_25_eq, r_26_eq, r_27_eq]
  refine Eq.trans (b := partnerOf (blend (swapOf (upperOf (bitOf lanes (Scalar.ofBits (F := Ideal) .f32 0x3E800000#32))) (partnerOf keys (flipLane 7#32)) keys) (partnerOf lanes (flipLane 7#32)) lanes) (flipLane 2#32)) rfl ?_
  simp only [stage_7]

theorem r_32_eq :
    kernelRun0_A.sl.r_32 (F := Ideal) = bitOf lanes (Scalar.ofBits (F := Ideal) .f32 0x3F000000#32) := by
  unfold kernelRun0_A.sl.r_32
  simp only [lanes_eq]
  rfl

theorem r_33_eq :
    kernelRun0_A.sl.r_33 (F := Ideal) = cmpf .one (bitOf lanes (Scalar.ofBits (F := Ideal) .f32 0x3F000000#32)) (broadcast S8x128 (Scalar.ofBits (F := Ideal) .f32 0x00000000#32)) := by
  unfold kernelRun0_A.sl.r_33
  simp only [lanes_eq]
  rfl

theorem r_34_eq (c : Dev nD) (arg6 : Memref sig .tc .vmem S100x256 .f32) (fh0 : HbBuf0 (F := Ideal) c hbM0_0) :
    kernelRun0_A.sl.r_34 (F := Ideal) c arg6 fh0 = keys := by
  unfold kernelRun0_A.sl.r_34
  simp only [r_28_eq, r_30_eq, r_32_eq, r_33_eq]
  refine Eq.trans (b := blend (swapOf (upperOf (bitOf lanes (Scalar.ofBits (F := Ideal) .f32 0x3F000000#32))) (partnerOf keys (flipLane 2#32)) keys) (partnerOf keys (flipLane 2#32)) keys) rfl ?_
  simp only [stage_2]

theorem r_35_eq (c : Dev nD) (arg6 : Memref sig .tc .vmem S100x256 .f32) (fh0 : HbBuf0 (F := Ideal) c hbM0_0) :
    kernelRun0_A.sl.r_35 (F := Ideal) c arg6 fh0 = lanes := by
  unfold kernelRun0_A.sl.r_35
  simp only [r_28_eq, r_29_eq, r_30_eq, r_31_eq, r_32_eq, r_33_eq]
  refine Eq.trans (b := blend (swapOf (upperOf (bitOf lanes (Scalar.ofBits (F := Ideal) .f32 0x3F000000#32))) (partnerOf keys (flipLane 2#32)) keys) (partnerOf lanes (flipLane 2#32)) lanes) rfl ?_
  simp only [stage_2]

theorem r_36_eq (c : Dev nD) (arg6 : Memref sig .tc .vmem S100x256 .f32) (fh0 : HbBuf0 (F := Ideal) c hbM0_0) :
    kernelRun0_A.sl.r_36 (F := Ideal) c arg6 fh0 = partnerOf keys (flipLane 1#32) := by
  unfold kernelRun0_A.sl.r_36
  simp only [r_34_eq]
  rfl

theorem r_37_eq (c : Dev nD) (arg6 : Memref sig .tc .vmem S100x256 .f32) (fh0 : HbBuf0 (F := Ideal) c hbM0_0) :
    kernelRun0_A.sl.r_37 (F := Ideal) c arg6 fh0 = partnerOf lanes (flipLane 1#32) := by
  unfold kernelRun0_A.sl.r_37
  simp only [r_35_eq]
  rfl

theorem r_38_eq :
    kernelRun0_A.sl.r_38 (F := Ideal) = upperOf (bitOf lanes (Scalar.ofBits (F := Ideal) .f32 0x3F800000#32)) := by
  unfold kernelRun0_A.sl.r_38
  simp only [lanes_eq]
  rfl

theorem r_39_eq (c : Dev nD) (arg6 : Memref sig .tc .vmem S100x256 .f32) (fh0 : HbBuf0 (F := Ideal) c hbM0_0) :
    kernelRun0_A.sl.r_39 (F := Ideal) c arg6 fh0 = greater (partnerOf keys (flipLane 1#32)) keys := by
  unfold kernelRun0_A.sl.r_39
  simp only [r_34_eq]
  rfl

theorem r_40_eq (c : Dev nD) (arg6 : Memref sig .tc .vmem S100x256 .f32) (fh0 : HbBuf0 (F := Ideal) c hbM0_0) :
    kernelRun0_A.sl.r_40 (F := Ideal) c arg6 fh0 = keys := by
  unfold kernelRun0_A.sl.r_40
  simp only [r_34_eq, r_36_eq, r_38_eq, r_39_eq]
  refine Eq.trans (b := blend (swapOf (upperOf (bitOf lanes (Scalar.ofBits (F := Ideal) .f32 0x3F800000#32))) (partnerOf keys (flipLane 1#32)) keys) (partnerOf keys (flipLane 1#32)) keys) rfl ?_
  simp only [stage_1]

theorem r_41_eq (c : Dev nD) (arg6 : Memref sig .tc .vmem S100x256 .f32) (fh0 : HbBuf0 (F := Ideal) c hbM0_0) :
    kernelRun0_A.sl.r_41 (F := Ideal) c arg6 fh0 = lanes := by
  unfold kernelRun0_A.sl.r_41
  simp only [r_34_eq, r_35_eq, r_36_eq, r_37_eq, r_38_eq, r_39_eq]
  refine Eq.trans (b := blend (swapOf (upperOf (bitOf lanes (Scalar.ofBits (F := Ideal) .f32 0x3F800000#32))) (partnerOf keys (flipLane 1#32)) keys) (partnerOf lanes (flipLane 1#32)) lanes) rfl ?_
  simp only [stage_1]

theorem r_42_eq (c : Dev nD) (arg6 : Memref sig .tc .vmem S100x256 .f32) (fh0 : HbBuf0 (F := Ideal) c hbM0_0) :
    kernelRun0_A.sl.r_42 (F := Ideal) c arg6 fh0 = partnerOf keys (flipLane 15#32) := by
  unfold kernelRun0_A.sl.r_42
  simp only [r_34_eq, r_36_eq, r_38_eq, r_39_eq]
  refine Eq.trans (b := partnerOf (blend (swapOf (upperOf (bitOf lanes (Scalar.ofBits (F := Ideal) .f32 0x3F800000#32))) (partnerOf keys (flipLane 1#32)) keys) (partnerOf keys (flipLane 1#32)) keys) (flipLane 15#32)) rfl ?_
  simp only [stage_1]

theorem r_43_eq (c : Dev nD) (arg6 : Memref sig .tc .vmem S100x256 .f32) (fh0 : HbBuf0 (F := Ideal) c hbM0_0) :
    kernelRun0_A.sl.r_43 (F := Ideal) c arg6 fh0 = partnerOf lanes (flipLane 15#32) := by
  unfold kernelRun0_A.sl.r_43
  simp only [r_34_eq, r_35_eq, r_36_eq, r_37_eq, r_38_eq, r_39_eq]
  refine Eq.trans (b := partnerOf (blend (swapOf (upperOf (bitOf lanes (Scalar.ofBits (F := Ideal) .f32 0x3F800000#32))) (partnerOf keys (flipLane 1#32)) keys) (partnerOf lanes (flipLane 1#32)) lanes) (flipLane 15#32)) rfl ?_
  simp only [stage_1]

theorem r_44_eq (c : Dev nD) (arg6 : Memref sig .tc .vmem S100x256 .f32) (fh0 : HbBuf0 (F := Ideal) c hbM0_0) :
    kernelRun0_A.sl.r_44 (F := Ideal) c arg6 fh0 = swapOf (upperOf (bitOf lanes (Scalar.ofBits (F := Ideal) .f32 0x3E000000#32))) (partnerOf keys (flipLane 15#32)) keys := by
  unfold kernelRun0_A.sl.r_44
  simp only [lanes_eq, r_40_eq, r_42_eq]
  rfl

theorem r_45_eq (c : Dev nD) (arg6 : Memref sig .tc .vmem S100x256 .f32) (fh0 : HbBuf0 (F := Ideal) c hbM0_0) :
    kernelRun0_A.sl.r_45 (F := Ideal) c arg6 fh0 = mulf (swapOf (upperOf (bitOf lanes (Scalar.ofBits (F := Ideal) .f32 0x3E000000#32))) (partnerOf keys (flipLane 15#32)) keys) (partnerOf keys (flipLane 15#32)) := by
  unfold kernelRun0_A.sl.r_45
  simp only [lanes_eq, r_40_eq, r_42_eq]
  rfl

theorem r_46_eq (c : Dev nD) (arg6 : Memref sig .tc .vmem S100x256 .f32) (fh0 : HbBuf0 (F := Ideal) c hbM0_0) :
    kernelRun0_A.sl.r_46 (F := Ideal) c arg6 fh0 = subf (broadcast S8x128 (Scalar.ofBits (F := Ideal) .f32 0x3F800000#32)) (swapOf (upperOf (bitOf lanes (Scalar.ofBits (F := Ideal) .f32 0x3E000000#32))) (partnerOf keys (flipLane 15#32)) keys) := by
  unfold kernelRun0_A.sl.r_46
  simp only [lanes_eq, r_40_eq, r_42_eq]
  rfl

theorem r_47_eq (c : Dev nD) (arg6 : Memref sig .tc .vmem S100x256 .f32) (fh0 : HbBuf0 (F := Ideal) c hbM0_0) :
    kernelRun0_A.sl.r_47 (F := Ideal) c arg6 fh0 = keys := by
  unfold kernelRun0_A.sl.r_47
  simp only [r_40_eq, r_45_eq, r_46_eq]
  refine Eq.trans (b := blend (swapOf (upperOf (bitOf lanes (Scalar.ofBits (F := Ideal) .f32 0x3E000000#32))) (partnerOf keys (flipLane 15#32)) keys) (partnerOf keys (flipLane 15#32)) keys) rfl ?_
  simp only [stage_15]

theorem r_48_eq (c : Dev nD) (arg6 : Memref sig .tc .vmem S100x256 .f32) (fh0 : HbBuf0 (F := Ideal) c hbM0_0) :
    kernelRun0_A.sl.r_48 (F := Ideal) c arg6 fh0 = lanes := by
  unfold kernelRun0_A.sl.r_48
  simp only [r_41_eq, r_43_eq, r_44_eq]
  refine Eq.trans (b := blend (swapOf (upperOf (bitOf lanes (Scalar.ofBits (F := Ideal) .f32 0x3E000000#32))) (partnerOf keys (flipLane 15#32)) keys) (partnerOf lanes (flipLane 15#32)) lanes) rfl ?_
  simp only [stage_15]

theorem r_49_eq (c : Dev nD) (arg6 : Memref sig .tc .vmem S100x256 .f32) (fh0 : HbBuf0 (F := Ideal) c hbM0_0) :
    kernelRun0_A.sl.r_49 (F := Ideal) c arg6 fh0 = partnerOf keys (flipLane 4#32) := by
  unfold kernelRun0_A.sl.r_49
  simp only [r_40_eq, r_45_eq, r_46_eq]
  refine Eq.trans (b := partnerOf (blend (swapOf (upperOf (bitOf lanes (Scalar.ofBits (F := Ideal) .f32 0x3E000000#32))) (partnerOf keys (flipLane 15#32)) keys) (partnerOf keys (flipLane 15#32)) keys) (flipLane 4#32)) rfl ?_
  simp only [stage_15]

theorem r_50_eq (c : Dev nD) (arg6 : Memref sig .tc .vmem S100x256 .f32) (fh0 : HbBuf0 (F := Ideal) c hbM0_0) :
    kernelRun0_A.sl.r_50 (F := Ideal) c arg6 fh0 = partnerOf lanes (flipLane 4#32) := by
  unfold kernelRun0_A.sl.r_50
  simp only [r_41_eq, r_43_eq, r_44_eq]
  refine Eq.trans (b := partnerOf (blend (swapOf (upperOf (bitOf lanes (Scalar.ofBits (F := Ideal) .f32 0x3E000000#32))) (partnerOf keys (flipLane 15#32)) keys) (partnerOf lanes (flipLane 15#32)) lanes) (flipLane 4#32)) rfl ?_
  simp only [stage_15]

theorem r_51_eq :
    kernelRun0_A.sl.r_51 (F := Ideal) = upperOf (bitOf lanes (Scalar.ofBits (F := Ideal) .f32 0x3E800000#32)) := by
  unfold kernelRun0_A.sl.r_51
  simp only [lanes_eq]
  rfl

theorem r_52_eq (c : Dev nD) (arg6 : Memref sig .tc .vmem S100x256 .f32) (fh0 : HbBuf0 (F := Ideal) c hbM0_0) :
    kernelRun0_A.sl.r_52 (F := Ideal) c arg6 fh0 = subf (partnerOf keys (flipLane 4#32)) keys := by
  unfold kernelRun0_A.sl.r_52
  simp only [r_40_eq, r_45_eq, r_46_eq]
  refine Eq.trans (b := subf (partnerOf (blend (swapOf (upperOf (bitOf lanes (Scalar.ofBits (F := Ideal) .f32 0x3E000000#32))) (partnerOf keys (flipLane 15#32)) keys) (partnerOf keys (flipLane 15#32)) keys) (flipLane 4#32)) (blend (swapOf (upperOf (bitOf lanes (Scalar.ofBits (F := Ideal) .f32 0x3E000000#32))) (partnerOf keys (flipLane 15#32)) keys) (partnerOf keys (flipLane 15#32)) keys)) rfl ?_
  simp only [stage_15]

theorem r_53_eq (c : Dev nD) (arg6 : Memref sig .tc .vmem S100x256 .f32) (fh0 : HbBuf0 (F := Ideal) c hbM0_0) :
    kernelRun0_A.sl.r_53 (F := Ideal) c arg6 fh0 = keys := by
  unfold kernelRun0_A.sl.r_53
  simp only [r_47_eq, r_49_eq, r_51_eq, r_52_eq]
  refine Eq.trans (b := blend (swapOf (upperOf (bitOf lanes (Scalar.ofBits (F := Ideal) .f32 0x3E800000#32))) (partnerOf keys (flipLane 4#32)) keys) (partnerOf keys (flipLane 4#32)) keys) rfl ?_
  simp only [stage_4]

theorem r_54_eq (c : Dev nD) (arg6 : Memref sig .tc .vmem S100x256 .f32) (fh0 : HbBuf0 (F := Ideal) c hbM0_0) :
    kernelRun0_A.sl.r_54 (F := Ideal) c arg6 fh0 = lanes := by
  unfold kernelRun0_A.sl.r_54
  simp only [r_47_eq, r_48_eq, r_49_eq, r_50_eq, r_51_eq, r_52_eq]
  refine Eq.trans (b := blend (swapOf (upperOf (bitOf lanes (Scalar.ofBits (F := Ideal) .f32 0x3E800000#32))) (partnerOf keys (flipLane 4#32)) keys) (partnerOf lanes (flipLane 4#32)) lanes) rfl ?_
  simp only [stage_4]

theorem r_55_eq (c : Dev nD) (arg6 : Memref sig .tc .vmem S100x256 .f32) (fh0 : HbBuf0 (F := Ideal) c hbM0_0) :
    kernelRun0_A.sl.r_55 (F := Ideal) c arg6 fh0 = partnerOf keys (flipLane 2#32) := by
  unfold kernelRun0_A.sl.r_55
  simp only [r_47_eq, r_49_eq, r_51_eq, r_52_eq]
  refine Eq.trans (b := partnerOf (blend (swapOf (upperOf (bitOf lanes (Scalar.ofBits (F := Ideal) .f32 0x3E800000#32))) (partnerOf keys (flipLane 4#32)) keys) (partnerOf keys (flipLane 4#32)) keys) (flipLane 2#32)) rfl ?_
  simp only [stage_4]

theorem r_56_eq (c : Dev nD) (arg6 : Memref sig .tc .vmem S100x256 .f32) (fh0 : HbBuf0 (F := Ideal) c hbM0_0) :
    kernelRun0_A.sl.r_56 (F := Ideal) c arg6 fh0 = partnerOf lanes (flipLane 2#32) := by
  unfold kernelRun0_A.sl.r_56
  simp only [r_54_eq]
  rfl

theorem r_57_eq (c : Dev nD) (arg6 : Memref sig .tc .vmem S100x256 .f32) (fh0 : HbBuf0 (F := Ideal) c hbM0_0) :
    kernelRun0_A.sl.r_57 (F := Ideal) c arg6 fh0 = mulf (upperOf (bitOf lanes (Scalar.ofBits (F := Ideal) .f32 0x3F000000#32))) (greater (partnerOf keys (flipLane 2#32)) keys) := by
  unfold kernelRun0_A.sl.r_57
  simp only [lanes_eq, r_53_eq, r_55_eq]
  rfl

theorem r_58_eq :
    kernelRun0_A.sl.r_58 (F := Ideal) = subf (broadcast S8x128 (Scalar.ofBits (F := Ideal) .f32 0x3F800000#32)) (upperOf (bitOf lanes (Scalar.ofBits (F := Ideal) .f32 0x3F000000#32))) := by
  unfold kernelRun0_A.sl.r_58
  simp only [lanes_eq]
  rfl

theorem r_59_eq (c : Dev nD) (arg6 : Memref sig .tc .vmem S100x256 .f32) (fh0 : HbBuf0 (F := Ideal) c hbM0_0) :
    kernelRun0_A.sl.r_59 (F := Ideal) c arg6 fh0 = maximumf (subf keys (partnerOf keys (flipLane 2#32))) (broadcast S8x128 (Scalar.ofBits (F := Ideal) .f32 0x00000000#32)) := by
  unfold kernelRun0_A.sl.r_59
  simp only [r_53_eq, r_55_eq]
  rfl

theorem r_60_eq (c : Dev nD) (arg6 : Memref sig .tc .vmem S100x256 .f32) (fh0 : HbBuf0 (F := Ideal) c hbM0_0) :
    kernelRun0_A.sl.r_60 (F := Ideal) c arg6 fh0 = keys := by
  unfold kernelRun0_A.sl.r_60
  simp only [r_53_eq, r_55_eq, r_57_eq, r_58_eq, r_59_eq]
  refine Eq.trans (b := blend (swapOf (upperOf (bitOf lanes (Scalar.ofBits (F := Ideal) .f32 0x3F000000#32))) (partnerOf keys (flipLane 2#32)) keys) (partnerOf keys (flipLane 2#32)) keys) rfl ?_
  simp only [stage_2]

theorem r_61_eq (c : Dev nD) (arg6 : Memref sig .tc .vmem S100x256 .f32) (fh0 : HbBuf0 (F := Ideal) c hbM0_0) :
    kernelRun0_A.sl.r_61 (F := Ideal) c arg6 fh0 = lanes := by
  unfold kernelRun0_A.sl.r_61
  simp only [r_54_eq, r_56_eq, r_57_eq, r_58_eq, r_59_eq]
  refine Eq.trans (b := blend (swapOf (upperOf (bitOf lanes (Scalar.ofBits (F := Ideal) .f32 0x3F000000#32))) (partnerOf keys (flipLane 2#32)) keys) (partnerOf lanes (flipLane 2#32)) lanes) rfl ?_
  simp only [stage_2]

theorem r_62_eq (c : Dev nD) (arg6 : Memref sig .tc .vmem S100x256 .f32) (fh0 : HbBuf0 (F := Ideal) c hbM0_0) :
    kernelRun0_A.sl.r_62 (F := Ideal) c arg6 fh0 = partnerOf keys (flipLane 1#32) := by
  unfold kernelRun0_A.sl.r_62
  simp only [r_53_eq, r_55_eq, r_57_eq, r_58_eq, r_59_eq]
  refine Eq.trans (b := partnerOf (blend (swapOf (upperOf (bitOf lanes (Scalar.ofBits (F := Ideal) .f32 0x3F000000#32))) (partnerOf keys (flipLane 2#32)) keys) (partnerOf keys (flipLane 2#32)) keys) (flipLane 1#32)) rfl ?_
  simp only [stage_2]

theorem r_63_eq (c : Dev nD) (arg6 : Memref sig .tc .vmem S100x256 .f32) (fh0 : HbBuf0 (F := Ideal) c hbM0_0) :
    kernelRun0_A.sl.r_63 (F := Ideal) c arg6 fh0 = partnerOf lanes (flipLane 1#32) := by
  unfold kernelRun0_A.sl.r_63
  simp only [r_54_eq, r_56_eq, r_57_eq, r_58_eq, r_59_eq]
  refine Eq.trans (b := partnerOf (blend (swapOf (upperOf (bitOf lanes (Scalar.ofBits (F := Ideal) .f32 0x3F000000#32))) (partnerOf keys (flipLane 2#32)) keys) (partnerOf lanes (flipLane 2#32)) lanes) (flipLane 1#32)) rfl ?_
  simp only [stage_2]

theorem r_64_eq :
    kernelRun0_A.sl.r_64 (F := Ideal) = bitOf lanes (Scalar.ofBits (F := Ideal) .f32 0x3F800000#32) := by
  unfold kernelRun0_A.sl.r_64
  simp only [lanes_eq]
  rfl

theorem r_65_eq :
    kernelRun0_A.sl.r_65 (F := Ideal) = cmpf .one (bitOf lanes (Scalar.ofBits (F := Ideal) .f32 0x3F800000#32)) (broadcast S8x128 (Scalar.ofBits (F := Ideal) .f32 0x00000000#32)) := by
  unfold kernelRun0_A.sl.r_65
  simp only [lanes_eq]
  rfl

theorem r_66_eq (c : Dev nD) (arg6 : Memref sig .tc .vmem S100x256 .f32) (fh0 : HbBuf0 (F := Ideal) c hbM0_0) :
    kernelRun0_A.sl.r_66 (F := Ideal) c arg6 fh0 = keys := by
  unfold kernelRun0_A.sl.r_66
  simp only [r_60_eq, r_62_eq, r_64_eq, r_65_eq]
  refine Eq.trans (b := blend (swapOf (upperOf (bitOf lanes (Scalar.ofBits (F := Ideal) .f32 0x3F800000#32))) (partnerOf keys (flipLane 1#32)) keys) (partnerOf keys (flipLane 1#32)) keys) rfl ?_
  simp only [stage_1]

theorem r_67_eq (c : Dev nD) (arg6 : Memref sig .tc .vmem S100x256 .f32) (fh0 : HbBuf0 (F := Ideal) c hbM0_0) :
    kernelRun0_A.sl.r_67 (F := Ideal) c arg6 fh0 = lanes := by
  unfold kernelRun0_A.sl.r_67
  simp only [r_60_eq, r_61_eq, r_62_eq, r_63_eq, r_64_eq, r_65_eq]
  refine Eq.trans (b := blend (swapOf (upperOf (bitOf lanes (Scalar.ofBits (F := Ideal) .f32 0x3F800000#32))) (partnerOf keys (flipLane 1#32)) keys) (partnerOf lanes (flipLane 1#32)) lanes) rfl ?_
  simp only [stage_1]

theorem r_68_eq (c : Dev nD) (arg6 : Memref sig .tc .vmem S100x256 .f32) (fh0 : HbBuf0 (F := Ideal) c hbM0_0) :
    kernelRun0_A.sl.r_68 (F := Ideal) c arg6 fh0 = partnerOf keys (flipLane 31#32) := by
  unfold kernelRun0_A.sl.r_68
  simp only [r_66_eq]
  rfl

theorem r_69_eq (c : Dev nD) (arg6 : Memref sig .tc .vmem S100x256 .f32) (fh0 : HbBuf0 (F := Ideal) c hbM0_0) :
    kernelRun0_A.sl.r_69 (F := Ideal) c arg6 fh0 = partnerOf lanes (flipLane 31#32) := by
  unfold kernelRun0_A.sl.r_69
  simp only [r_67_eq]
  rfl

theorem r_70_eq :
    kernelRun0_A.sl.r_70 (F := Ideal) = upperOf (bitOf lanes (Scalar.ofBits (F := Ideal) .f32 0x3D800000#32)) := by
  unfold kernelRun0_A.sl.r_70
  simp only [lanes_eq]
  rfl

theorem r_71_eq (c : Dev nD) (arg6 : Memref sig .tc .vmem S100x256 .f32) (fh0 : HbBuf0 (F := Ideal) c hbM0_0) :
    kernelRun0_A.sl.r_71 (F := Ideal) c arg6 fh0 = greater (partnerOf keys (flipLane 31#32)) keys := by
  unfold kernelRun0_A.sl.r_71
  simp only [r_66_eq]
  rfl

theorem r_72_eq (c : Dev nD) (arg6 : Memref sig .tc .vmem S100x256 .f32) (fh0 : HbBuf0 (F := Ideal) c hbM0_0) :
    kernelRun0_A.sl.r_72 (F := Ideal) c arg6 fh0 = keys := by
  unfold kernelRun0_A.sl.r_72
  simp only [r_66_eq, r_68_eq, r_70_eq, r_71_eq]
  refine Eq.trans (b := blend (swapOf (upperOf (bitOf lanes (Scalar.ofBits (F := Ideal) .f32 0x3D800000#32))) (partnerOf keys (flipLane 31#32)) keys) (partnerOf keys (flipLane 31#32)) keys) rfl ?_
  simp only [stage_31]

theorem r_73_eq (c : Dev nD) (arg6 : Memref sig .tc .vmem S100x256 .f32) (fh0 : HbBuf0 (F := Ideal) c hbM0_0) :
    kernelRun0_A.sl.r_73 (F := Ideal) c arg6 fh0 = lanes := by
  unfold kernelRun0_A.sl.r_73
  simp only [r_66_eq, r_67_eq, r_68_eq, r_69_eq, r_70_eq, r_71_eq]
  refine Eq.trans (b := blend (swapOf (upperOf (bitOf lanes (Scalar.ofBits (F := Ideal) .f32 0x3D800000#32))) (partnerOf keys (flipLane 31#32)) keys) (partnerOf lanes (flipLane 31#32)) lanes) rfl ?_
  simp only [stage_31]

theorem r_74_eq (c : Dev nD) (arg6 : Memref sig .tc .vmem S100x256 .f32) (fh0 : HbBuf0 (F := Ideal) c hbM0_0) :
    kernelRun0_A.sl.r_74 (F := Ideal) c arg6 fh0 = partnerOf keys (flipLane 8#32) := by
  unfold kernelRun0_A.sl.r_74
  simp only [r_66_eq, r_68_eq, r_70_eq, r_71_eq]
  refine Eq.trans (b := partnerOf (blend (swapOf (upperOf (bitOf lanes (Scalar.ofBits (F := Ideal) .f32 0x3D800000#32))) (partnerOf keys (flipLane 31#32)) keys) (partnerOf keys (flipLane 31#32)) keys) (flipLane 8#32)) rfl ?_
  simp only [stage_31]

theorem r_75_eq (c : Dev nD) (arg6 : Memref sig .tc .vmem S100x256 .f32) (fh0 : HbBuf0 (F := Ideal) c hbM0_0) :
    kernelRun0_A.sl.r_75 (F := Ideal) c arg6 fh0 = partnerOf lanes (flipLane 8#32) := by
  unfold kernelRun0_A.sl.r_75
  simp only [r_66_eq, r_67_eq, r_68_eq, r_69_eq, r_70_eq, r_71_eq]
  refine Eq.trans (b := partnerOf (blend (swapOf (upperOf (bitOf lanes (Scalar.ofBits (F := Ideal) .f32 0x3D800000#32))) (partnerOf keys (flipLane 31#32)) keys) (partnerOf lanes (flipLane 31#32)) lanes) (flipLane 8#32)) rfl ?_
  simp only [stage_31]

theorem r_76_eq (c : Dev nD) (arg6 : Memref sig .tc .vmem S100x256 .f32) (fh0 : HbBuf0 (F := Ideal) c hbM0_0) :
    kernelRun0_A.sl.r_76 (F := Ideal) c arg6 fh0 = swapOf (upperOf (bitOf lanes (Scalar.ofBits (F := Ideal) .f32 0x3E000000#32))) (partnerOf keys (flipLane 8#32)) keys := by
  unfold kernelRun0_A.sl.r_76
  simp only [lanes_eq, r_72_eq, r_74_eq]
  rfl

theorem r_77_eq (c : Dev nD) (arg6 : Memref sig .tc .vmem S100x256 .f32) (fh0 : HbBuf0 (F := Ideal) c hbM0_0) :
    kernelRun0_A.sl.r_77 (F := Ideal) c arg6 fh0 = mulf (swapOf (upperOf (bitOf lanes (Scalar.ofBits (F := Ideal) .f32 0x3E000000#32))) (partnerOf keys (flipLane 8#32)) keys) (partnerOf keys (flipLane 8#32)) := by
  unfold kernelRun0_A.sl.r_77
  simp only [lanes_eq, r_72_eq, r_74_eq]
  rfl

theorem r_78_eq (c : Dev nD) (arg6 : Memref sig .tc .vmem S100x256 .f32) (fh0 : HbBuf0 (F := Ideal) c hbM0_0) :
    kernelRun0_A.sl.r_78 (F := Ideal) c arg6 fh0 = subf (broadcast S8x128 (Scalar.ofBits (F := Ideal) .f32 0x3F800000#32)) (swapOf (upperOf (bitOf lanes (Scalar.ofBits (F := Ideal) .f32 0x3E000000#32))) (partnerOf keys (flipLane 8#32)) keys) := by
  unfold kernelRun0_A.sl.r_78
  simp only [lanes_eq, r_72_eq, r_74_eq]
  rfl

theorem r_79_eq (c : Dev nD) (arg6 : Memref sig .tc .vmem S100x256 .f32) (fh0 : HbBuf0 (F := Ideal) c hbM0_0) :
    kernelRun0_A.sl.r_79 (F := Ideal) c arg6 fh0 = keys := by
  unfold kernelRun0_A.sl.r_79
  simp only [r_72_eq, r_77_eq, r_78_eq]
  refine Eq.trans (b := blend (swapOf (upperOf (bitOf lanes (Scalar.ofBits (F := Ideal) .f32 0x3E000000#32))) (partnerOf keys (flipLane 8#32)) keys) (partnerOf keys (flipLane 8#32)) keys) rfl ?_
  simp only [stage_8]

theorem r_80_eq (c : Dev nD) (arg6 : Memref sig .tc .vmem S100x256 .f32) (fh0 : HbBuf0 (F := Ideal) c hbM0_0) :
    kernelRun0_A.sl.r_80 (F := Ideal) c arg6 fh0 = lanes := by
  unfold kernelRun0_A.sl.r_80
  simp only [r_73_eq, r_75_eq, r_76_eq]
  refine Eq.trans (b := blend (swapOf (upperOf (bitOf lanes (Scalar.ofBits (F := Ideal) .f32 0x3E000000#32))) (partnerOf keys (flipLane 8#32)) keys) (partnerOf lanes (flipLane 8#32)) lanes) rfl ?_
  simp only [stage_8]

theorem r_81_eq (c : Dev nD) (arg6 : Memref sig .tc .vmem S100x256 .f32) (fh0 : HbBuf0 (F := Ideal) c hbM0_0) :
    kernelRun0_A.sl.r_81 (F := Ideal) c arg6 fh0 = partnerOf keys (flipLane 4#32) := by
  unfold kernelRun0_A.sl.r_81
  simp only [r_72_eq, r_77_eq, r_78_eq]
  refine Eq.trans (b := partnerOf (blend (swapOf (upperOf (bitOf lanes (Scalar.ofBits (F := Ideal) .f32 0x3E000000#32))) (partnerOf keys (flipLane 8#32)) keys) (partnerOf keys (flipLane 8#32)) keys) (flipLane 4#32)) rfl ?_
  simp only [stage_8]

theorem r_82_eq (c : Dev nD) (arg6 : Memref sig .tc .vmem S100x256 .f32) (fh0 : HbBuf0 (F := Ideal) c hbM0_0) :
    kernelRun0_A.sl.r_82 (F := Ideal) c arg6 fh0 = partnerOf lanes (flipLane 4#32) := by
  unfold kernelRun0_A.sl.r_82
  simp only [r_73_eq, r_75_eq, r_76_eq]
  refine Eq.trans (b := partnerOf (blend (swapOf (upperOf (bitOf lanes (Scalar.ofBits (F := Ideal) .f32 0x3E000000#32))) (partnerOf keys (flipLane 8#32)) keys) (partnerOf lanes (flipLane 8#32)) lanes) (flipLane 4#32)) rfl ?_
  simp only [stage_8]

theorem r_83_eq :
    kernelRun0_A.sl.r_83 (F := Ideal) = upperOf (bitOf lanes (Scalar.ofBits (F := Ideal) .f32 0x3E800000#32)) := by
  unfold kernelRun0_A.sl.r_83
  simp only [lanes_eq]
  rfl

theorem r_84_eq (c : Dev nD) (arg6 : Memref sig .tc .vmem S100x256 .f32) (fh0 : HbBuf0 (F := Ideal) c hbM0_0) :
    kernelRun0_A.sl.r_84 (F := Ideal) c arg6 fh0 = subf (partnerOf keys (flipLane 4#32)) keys := by
  unfold kernelRun0_A.sl.r_84
  simp only [r_72_eq, r_77_eq, r_78_eq]
  refine Eq.trans (b := subf (partnerOf (blend (swapOf (upperOf (bitOf lanes (Scalar.ofBits (F := Ideal) .f32 0x3E000000#32))) (partnerOf keys (flipLane 8#32)) keys) (partnerOf keys (flipLane 8#32)) keys) (flipLane 4#32)) (blend (swapOf (upperOf (bitOf lanes (Scalar.ofBits (F := Ideal) .f32 0x3E000000#32))) (partnerOf keys (flipLane 8#32)) keys) (partnerOf keys (flipLane 8#32)) keys)) rfl ?_
  simp only [stage_8]

theorem r_85_eq (c : Dev nD) (arg6 : Memref sig .tc .vmem S100x256 .f32) (fh0 : HbBuf0 (F := Ideal) c hbM0_0) :
    kernelRun0_A.sl.r_85 (F := Ideal) c arg6 fh0 = keys := by
  unfold kernelRun0_A.sl.r_85
  simp only [r_79_eq, r_81_eq, r_83_eq, r_84_eq]
  refine Eq.trans (b := blend (swapOf (upperOf (bitOf lanes (Scalar.ofBits (F := Ideal) .f32 0x3E800000#32))) (partnerOf keys (flipLane 4#32)) keys) (partnerOf keys (flipLane 4#32)) keys) rfl ?_
  simp only [stage_4]

theorem r_86_eq (c : Dev nD) (arg6 : Memref sig .tc .vmem S100x256 .f32) (fh0 : HbBuf0 (F := Ideal) c hbM0_0) :
    kernelRun0_A.sl.r_86 (F := Ideal) c arg6 fh0 = lanes := by
  unfold kernelRun0_A.sl.r_86
  simp only [r_79_eq, r_80_eq, r_81_eq, r_82_eq, r_83_eq, r_84_eq]
  refine Eq.trans (b := blend (swapOf (upperOf (bitOf lanes (Scalar.ofBits (F := Ideal) .f32 0x3E800000#32))) (partnerOf keys (flipLane 4#32)) keys) (partnerOf lanes (flipLane 4#32)) lanes) rfl ?_
  simp only [stage_4]

theorem r_87_eq (c : Dev nD) (arg6 : Memref sig .tc .vmem S100x256 .f32) (fh0 : HbBuf0 (F := Ideal) c hbM0_0) :
    kernelRun0_A.sl.r_87 (F := Ideal) c arg6 fh0 = partnerOf keys (flipLane 2#32) := by
  unfold kernelRun0_A.sl.r_87
  simp only [r_79_eq, r_81_eq, r_83_eq, r_84_eq]
  refine Eq.trans (b := partnerOf (blend (swapOf (upperOf (bitOf lanes (Scalar.ofBits (F := Ideal) .f32 0x3E800000#32))) (partnerOf keys (flipLane 4#32)) keys) (partnerOf keys (flipLane 4#32)) keys) (flipLane 2#32)) rfl ?_
  simp only [stage_4]

theorem r_88_eq (c : Dev nD) (arg6 : Memref sig .tc .vmem S100x256 .f32) (fh0 : HbBuf0 (F := Ideal) c hbM0_0) :
    kernelRun0_A.sl.r_88 (F := Ideal) c arg6 fh0 = partnerOf lanes (flipLane 2#32) := by
  unfold kernelRun0_A.sl.r_88
  simp only [r_86_eq]
  rfl

theorem r_89_eq (c : Dev nD) (arg6 : Memref sig .tc .vmem S100x256 .f32) (fh0 : HbBuf0 (F := Ideal) c hbM0_0) :
    kernelRun0_A.sl.r_89 (F := Ideal) c arg6 fh0 = mulf (upperOf (bitOf lanes (Scalar.ofBits (F := Ideal) .f32 0x3F000000#32))) (greater (partnerOf keys (flipLane 2#32)) keys) := by
  unfold kernelRun0_A.sl.r_89
  simp only [lanes_eq, r_85_eq, r_87_eq]
  rfl

theorem r_90_eq :
    kernelRun0_A.sl.r_90 (F := Ideal) = subf (broadcast S8x128 (Scalar.ofBits (F := Ideal) .f32 0x3F800000#32)) (upperOf (bitOf lanes (Scalar.ofBits (F := Ideal) .f32 0x3F000000#32))) := by
  unfold kernelRun0_A.sl.r_90
  simp only [lanes_eq]
  rfl

theorem r_91_eq (c : Dev nD) (arg6 : Memref sig .tc .vmem S100x256 .f32) (fh0 : HbBuf0 (F := Ideal) c hbM0_0) :
    kernelRun0_A.sl.r_91 (F := Ideal) c arg6 fh0 = maximumf (subf keys (partnerOf keys (flipLane 2#32))) (broadcast S8x128 (Scalar.ofBits (F := Ideal) .f32 0x00000000#32)) := by
  unfold kernelRun0_A.sl.r_91
  simp only [r_85_eq, r_87_eq]
  rfl

theorem r_92_eq (c : Dev nD) (arg6 : Memref sig .tc .vmem S100x256 .f32) (fh0 : HbBuf0 (F := Ideal) c hbM0_0) :
    kernelRun0_A.sl.r_92 (F := Ideal) c arg6 fh0 = keys := by
  unfold kernelRun0_A.sl.r_92
  simp only [r_85_eq, r_87_eq, r_89_eq, r_90_eq, r_91_eq]
  refine Eq.trans (b := blend (swapOf (upperOf (bitOf lanes (Scalar.ofBits (F := Ideal) .f32 0x3F000000#32))) (partnerOf keys (flipLane 2#32)) keys) (partnerOf keys (flipLane 2#32)) keys) rfl ?_
  simp only [stage_2]

theorem r_93_eq (c : Dev nD) (arg6 : Memref sig .tc .vmem S100x256 .f32) (fh0 : HbBuf0 (F := Ideal) c hbM0_0) :
    kernelRun0_A.sl.r_93 (F := Ideal) c arg6 fh0 = lanes := by
  unfold kernelRun0_A.sl.r_93
  simp only [r_86_eq, r_88_eq, r_89_eq, r_90_eq, r_91_eq]
  refine Eq.trans (b := blend (swapOf (upperOf (bitOf lanes (Scalar.ofBits (F := Ideal) .f32 0x3F000000#32))) (partnerOf keys (flipLane 2#32)) keys) (partnerOf lanes (flipLane 2#32)) lanes) rfl ?_
  simp only [stage_2]

theorem r_94_eq (c : Dev nD) (arg6 : Memref sig .tc .vmem S100x256 .f32) (fh0 : HbBuf0 (F := Ideal) c hbM0_0) :
    kernelRun0_A.sl.r_94 (F := Ideal) c arg6 fh0 = partnerOf keys (flipLane 1#32) := by
  unfold kernelRun0_A.sl.r_94
  simp only [r_85_eq, r_87_eq, r_89_eq, r_90_eq, r_91_eq]
  refine Eq.trans (b := partnerOf (blend (swapOf (upperOf (bitOf lanes (Scalar.ofBits (F := Ideal) .f32 0x3F000000#32))) (partnerOf keys (flipLane 2#32)) keys) (partnerOf keys (flipLane 2#32)) keys) (flipLane 1#32)) rfl ?_
  simp only [stage_2]

theorem r_95_eq (c : Dev nD) (arg6 : Memref sig .tc .vmem S100x256 .f32) (fh0 : HbBuf0 (F := Ideal) c hbM0_0) :
    kernelRun0_A.sl.r_95 (F := Ideal) c arg6 fh0 = partnerOf lanes (flipLane 1#32) := by
  unfold kernelRun0_A.sl.r_95
  simp only [r_86_eq, r_88_eq, r_89_eq, r_90_eq, r_91_eq]
  refine Eq.trans (b := partnerOf (blend (swapOf (upperOf (bitOf lanes (Scalar.ofBits (F := Ideal) .f32 0x3F000000#32))) (partnerOf keys (flipLane 2#32)) keys) (partnerOf lanes (flipLane 2#32)) lanes) (flipLane 1#32)) rfl ?_
  simp only [stage_2]

theorem r_96_eq :
    kernelRun0_A.sl.r_96 (F := Ideal) = bitOf lanes (Scalar.ofBits (F := Ideal) .f32 0x3F800000#32) := by
  unfold kernelRun0_A.sl.r_96
  simp only [lanes_eq]
  rfl

theorem r_97_eq :
    kernelRun0_A.sl.r_97 (F := Ideal) = cmpf .one (bitOf lanes (Scalar.ofBits (F := Ideal) .f32 0x3F800000#32)) (broadcast S8x128 (Scalar.ofBits (F := Ideal) .f32 0x00000000#32)) := by
  unfold kernelRun0_A.sl.r_97
  simp only [lanes_eq]
  rfl

theorem r_98_eq (c : Dev nD) (arg6 : Memref sig .tc .vmem S100x256 .f32) (fh0 : HbBuf0 (F := Ideal) c hbM0_0) :
    kernelRun0_A.sl.r_98 (F := Ideal) c arg6 fh0 = keys := by
  unfold kernelRun0_A.sl.r_98
  simp only [r_92_eq, r_94_eq, r_96_eq, r_97_eq]
  refine Eq.trans (b := blend (swapOf (upperOf (bitOf lanes (Scalar.ofBits (F := Ideal) .f32 0x3F800000#32))) (partnerOf keys (flipLane 1#32)) keys) (partnerOf keys (flipLane 1#32)) keys) rfl ?_
  simp only [stage_1]

theorem r_99_eq (c : Dev nD) (arg6 : Memref sig .tc .vmem S100x256 .f32) (fh0 : HbBuf0 (F := Ideal) c hbM0_0) :
    kernelRun0_A.sl.r_99 (F := Ideal) c arg6 fh0 = lanes := by
  unfold kernelRun0_A.sl.r_99
  simp only [r_92_eq, r_93_eq, r_94_eq, r_95_eq, r_96_eq, r_97_eq]
  refine Eq.trans (b := blend (swapOf (upperOf (bitOf lanes (Scalar.ofBits (F := Ideal) .f32 0x3F800000#32))) (partnerOf keys (flipLane 1#32)) keys) (partnerOf lanes (flipLane 1#32)) lanes) rfl ?_
  simp only [stage_1]

theorem r_100_eq (c : Dev nD) (arg6 : Memref sig .tc .vmem S100x256 .f32) (fh0 : HbBuf0 (F := Ideal) c hbM0_0) :
    kernelRun0_A.sl.r_100 (F := Ideal) c arg6 fh0 = partnerOf keys (flipLane 63#32) := by
  unfold kernelRun0_A.sl.r_100
  simp only [r_98_eq]
  rfl

theorem r_101_eq (c : Dev nD) (arg6 : Memref sig .tc .vmem S100x256 .f32) (fh0 : HbBuf0 (F := Ideal) c hbM0_0) :
    kernelRun0_A.sl.r_101 (F := Ideal) c arg6 fh0 = partnerOf lanes (flipLane 63#32) := by
  unfold kernelRun0_A.sl.r_101
  simp only [r_99_eq]
  rfl

theorem r_102_eq :
    kernelRun0_A.sl.r_102 (F := Ideal) = upperOf (bitOf lanes (Scalar.ofBits (F := Ideal) .f32 0x3D000000#32)) := by
  unfold kernelRun0_A.sl.r_102
  simp only [lanes_eq]
  rfl

theorem r_103_eq (c : Dev nD) (arg6 : Memref sig .tc .vmem S100x256 .f32) (fh0 : HbBuf0 (F := Ideal) c hbM0_0) :
    kernelRun0_A.sl.r_103 (F := Ideal) c arg6 fh0 = greater (partnerOf keys (flipLane 63#32)) keys := by
  unfold kernelRun0_A.sl.r_103
  simp only [r_98_eq]
  rfl

theorem r_104_eq (c : Dev nD) (arg6 : Memref sig .tc .vmem S100x256 .f32) (fh0 : HbBuf0 (F := Ideal) c hbM0_0) :
    kernelRun0_A.sl.r_104 (F := Ideal) c arg6 fh0 = keys := by
  unfold kernelRun0_A.sl.r_104
  simp only [r_98_eq, r_100_eq, r_102_eq, r_103_eq]
  refine Eq.trans (b := blend (swapOf (upperOf (bitOf lanes (Scalar.ofBits (F := Ideal) .f32 0x3D000000#32))) (partnerOf keys (flipLane 63#32)) keys) (partnerOf keys (flipLane 63#32)) keys) rfl ?_
  simp only [stage_63]

theorem r_105_eq (c : Dev nD) (arg6 : Memref sig .tc .vmem S100x256 .f32) (fh0 : HbBuf0 (F := Ideal) c hbM0_0) :
    kernelRun0_A.sl.r_105 (F := Ideal) c arg6 fh0 = lanes := by
  unfold kernelRun0_A.sl.r_105
  simp only [r_98_eq, r_99_eq, r_100_eq, r_101_eq, r_102_eq, r_103_eq]
  refine Eq.trans (b := blend (swapOf (upperOf (bitOf lanes (Scalar.ofBits (F := Ideal) .f32 0x3D000000#32))) (partnerOf keys (flipLane 63#32)) keys) (partnerOf lanes (flipLane 63#32)) lanes) rfl ?_
  simp only [stage_63]

theorem r_106_eq (c : Dev nD) (arg6 : Memref sig .tc .vmem S100x256 .f32) (fh0 : HbBuf0 (F := Ideal) c hbM0_0) :
    kernelRun0_A.sl.r_106 (F := Ideal) c arg6 fh0 = partnerOf keys (flipLane 16#32) := by
  unfold kernelRun0_A.sl.r_106
  simp only [r_98_eq, r_100_eq, r_102_eq, r_103_eq]
  refine Eq.trans (b := partnerOf (blend (swapOf (upperOf (bitOf lanes (Scalar.ofBits (F := Ideal) .f32 0x3D000000#32))) (partnerOf keys (flipLane 63#32)) keys) (partnerOf keys (flipLane 63#32)) keys) (flipLane 16#32)) rfl ?_
  simp only [stage_63]

theorem r_107_eq (c : Dev nD) (arg6 : Memref sig .tc .vmem S100x256 .f32) (fh0 : HbBuf0 (F := Ideal) c hbM0_0) :
    kernelRun0_A.sl.r_107 (F := Ideal) c arg6 fh0 = partnerOf lanes (flipLane 16#32) := by
  unfold kernelRun0_A.sl.r_107
  simp only [r_98_eq, r_99_eq, r_100_eq, r_101_eq, r_102_eq, r_103_eq]
  refine Eq.trans (b := partnerOf (blend (swapOf (upperOf (bitOf lanes (Scalar.ofBits (F := Ideal) .f32 0x3D000000#32))) (partnerOf keys (flipLane 63#32)) keys) (partnerOf lanes (flipLane 63#32)) lanes) (flipLane 16#32)) rfl ?_
  simp only [stage_63]

theorem r_108_eq (c : Dev nD) (arg6 : Memref sig .tc .vmem S100x256 .f32) (fh0 : HbBuf0 (F := Ideal) c hbM0_0) :
    kernelRun0_A.sl.r_108 (F := Ideal) c arg6 fh0 = swapOf (upperOf (bitOf lanes (Scalar.ofBits (F := Ideal) .f32 0x3D800000#32))) (partnerOf keys (flipLane 16#32)) keys := by
  unfold kernelRun0_A.sl.r_108
  simp only [lanes_eq, r_104_eq, r_106_eq]
  rfl

theorem r_109_eq (c : Dev nD) (arg6 : Memref sig .tc .vmem S100x256 .f32) (fh0 : HbBuf0 (F := Ideal) c hbM0_0) :
    kernelRun0_A.sl.r_109 (F := Ideal) c arg6 fh0 = mulf (swapOf (upperOf (bitOf lanes (Scalar.ofBits (F := Ideal) .f32 0x3D800000#32))) (partnerOf keys (flipLane 16#32)) keys) (partnerOf keys (flipLane 16#32)) := by
  unfold kernelRun0_A.sl.r_109
  simp only [lanes_eq, r_104_eq, r_106_eq]
  rfl

theorem r_110_eq (c : Dev nD) (arg6 : Memref sig .tc .vmem S100x256 .f32) (fh0 : HbBuf0 (F := Ideal) c hbM0_0) :
    kernelRun0_A.sl.r_110 (F := Ideal) c arg6 fh0 = subf (broadcast S8x128 (Scalar.ofBits (F := Ideal) .f32 0x3F800000#32)) (swapOf (upperOf (bitOf lanes (Scalar.ofBits (F := Ideal) .f32 0x3D800000#32))) (partnerOf keys (flipLane 16#32)) keys) := by
  unfold kernelRun0_A.sl.r_110
  simp only [lanes_eq, r_104_eq, r_106_eq]
  rfl

theorem r_111_eq (c : Dev nD) (arg6 : Memref sig .tc .vmem S100x256 .f32) (fh0 : HbBuf0 (F := Ideal) c hbM0_0) :
    kernelRun0_A.sl.r_111 (F := Ideal) c arg6 fh0 = keys := by
  unfold kernelRun0_A.sl.r_111
  simp only [r_104_eq, r_109_eq, r_110_eq]
  refine Eq.trans (b := blend (swapOf (upperOf (bitOf lanes (Scalar.ofBits (F := Ideal) .f32 0x3D800000#32))) (partnerOf keys (flipLane 16#32)) keys) (partnerOf keys (flipLane 16#32)) keys) rfl ?_
  simp only [stage_16]

theorem r_112_eq (c : Dev nD) (arg6 : Memref sig .tc .vmem S100x256 .f32) (fh0 : HbBuf0 (F := Ideal) c hbM0_0) :
    kernelRun0_A.sl.r_112 (F := Ideal) c arg6 fh0 = lanes := by
  unfold kernelRun0_A.sl.r_112
  simp only [r_105_eq, r_107_eq, r_108_eq]
  refine Eq.trans (b := blend (swapOf (upperOf (bitOf lanes (Scalar.ofBits (F := Ideal) .f32 0x3D800000#32))) (partnerOf keys (flipLane 16#32)) keys) (partnerOf lanes (flipLane 16#32)) lanes) rfl ?_
  simp only [stage_16]

theorem r_113_eq (c : Dev nD) (arg6 : Memref sig .tc .vmem S100x256 .f32) (fh0 : HbBuf0 (F := Ideal) c hbM0_0) :
    kernelRun0_A.sl.r_113 (F := Ideal) c arg6 fh0 = partnerOf keys (flipLane 8#32) := by
  unfold kernelRun0_A.sl.r_113
  simp only [r_104_eq, r_109_eq, r_110_eq]
  refine Eq.trans (b := partnerOf (blend (swapOf (upperOf (bitOf lanes (Scalar.ofBits (F := Ideal) .f32 0x3D800000#32))) (partnerOf keys (flipLane 16#32)) keys) (partnerOf keys (flipLane 16#32)) keys) (flipLane 8#32)) rfl ?_
  simp only [stage_16]

theorem r_114_eq (c : Dev nD) (arg6 : Memref sig .tc .vmem S100x256 .f32) (fh0 : HbBuf0 (F := Ideal) c hbM0_0) :
    kernelRun0_A.sl.r_114 (F := Ideal) c arg6 fh0 = partnerOf lanes (flipLane 8#32) := by
  unfold kernelRun0_A.sl.r_114
  simp only [r_105_eq, r_107_eq, r_108_eq]
  refine Eq.trans (b := partnerOf (blend (swapOf (upperOf (bitOf lanes (Scalar.ofBits (F := Ideal) .f32 0x3D800000#32))) (partnerOf keys (flipLane 16#32)) keys) (partnerOf lanes (flipLane 16#32)) lanes) (flipLane 8#32)) rfl ?_
  simp only [stage_16]

theorem r_115_eq :
    kernelRun0_A.sl.r_115 (F := Ideal) = upperOf (bitOf lanes (Scalar.ofBits (F := Ideal) .f32 0x3E000000#32)) := by
  unfold kernelRun0_A.sl.r_115
  simp only [lanes_eq]
  rfl

theorem r_116_eq (c : Dev nD) (arg6 : Memref sig .tc .vmem S100x256 .f32) (fh0 : HbBuf0 (F := Ideal) c hbM0_0) :
    kernelRun0_A.sl.r_116 (F := Ideal) c arg6 fh0 = subf (partnerOf keys (flipLane 8#32)) keys := by
  unfold kernelRun0_A.sl.r_116
  simp only [r_104_eq, r_109_eq, r_110_eq]
  refine Eq.trans (b := subf (partnerOf (blend (swapOf (upperOf (bitOf lanes (Scalar.ofBits (F := Ideal) .f32 0x3D800000#32))) (partnerOf keys (flipLane 16#32)) keys) (partnerOf keys (flipLane 16#32)) keys) (flipLane 8#32)) (blend (swapOf (upperOf (bitOf lanes (Scalar.ofBits (F := Ideal) .f32 0x3D800000#32))) (partnerOf keys (flipLane 16#32)) keys) (partnerOf keys (flipLane 16#32)) keys)) rfl ?_
  simp only [stage_16]

theorem r_117_eq (c : Dev nD) (arg6 : Memref sig .tc .vmem S100x256 .f32) (fh0 : HbBuf0 (F := Ideal) c hbM0_0) :
    kernelRun0_A.sl.r_117 (F := Ideal) c arg6 fh0 = keys := by
  unfold kernelRun0_A.sl.r_117
  simp only [r_111_eq, r_113_eq, r_115_eq, r_116_eq]
  refine Eq.trans (b := blend (swapOf (upperOf (bitOf lanes (Scalar.ofBits (F := Ideal) .f32 0x3E000000#32))) (partnerOf keys (flipLane 8#32)) keys) (partnerOf keys (flipLane 8#32)) keys) rfl ?_
  simp only [stage_8]

theorem r_118_eq (c : Dev nD) (arg6 : Memref sig .tc .vmem S100x256 .f32) (fh0 : HbBuf0 (F := Ideal) c hbM0_0) :
    kernelRun0_A.sl.r_118 (F := Ideal) c arg6 fh0 = lanes := by
  unfold kernelRun0_A.sl.r_118
  simp only [r_111_eq, r_112_eq, r_113_eq, r_114_eq, r_115_eq, r_116_eq]
  refine Eq.trans (b := blend (swapOf (upperOf (bitOf lanes (Scalar.ofBits (F := Ideal) .f32 0x3E000000#32))) (partnerOf keys (flipLane 8#32)) keys) (partnerOf lanes (flipLane 8#32)) lanes) rfl ?_
  simp only [stage_8]

theorem r_119_eq (c : Dev nD) (arg6 : Memref sig .tc .vmem S100x256 .f32) (fh0 : HbBuf0 (F := Ideal) c hbM0_0) :
    kernelRun0_A.sl.r_119 (F := Ideal) c arg6 fh0 = partnerOf keys (flipLane 4#32) := by
  unfold kernelRun0_A.sl.r_119
  simp only [r_111_eq, r_113_eq, r_115_eq, r_116_eq]
  refine Eq.trans (b := partnerOf (blend (swapOf (upperOf (bitOf lanes (Scalar.ofBits (F := Ideal) .f32 0x3E000000#32))) (partnerOf keys (flipLane 8#32)) keys) (partnerOf keys (flipLane 8#32)) keys) (flipLane 4#32)) rfl ?_
  simp only [stage_8]

theorem r_120_eq (c : Dev nD) (arg6 : Memref sig .tc .vmem S100x256 .f32) (fh0 : HbBuf0 (F := Ideal) c hbM0_0) :
    kernelRun0_A.sl.r_120 (F := Ideal) c arg6 fh0 = partnerOf lanes (flipLane 4#32) := by
  unfold kernelRun0_A.sl.r_120
  simp only [r_118_eq]
  rfl

theorem r_121_eq (c : Dev nD) (arg6 : Memref sig .tc .vmem S100x256 .f32) (fh0 : HbBuf0 (F := Ideal) c hbM0_0) :
    kernelRun0_A.sl.r_121 (F := Ideal) c arg6 fh0 = mulf (upperOf (bitOf lanes (Scalar.ofBits (F := Ideal) .f32 0x3E800000#32))) (greater (partnerOf keys (flipLane 4#32)) keys) := by
  unfold kernelRun0_A.sl.r_121
  simp only [lanes_eq, r_117_eq, r_119_eq]
  rfl

theorem r_122_eq :
    kernelRun0_A.sl.r_122 (F := Ideal) = subf (broadcast S8x128 (Scalar.ofBits (F := Ideal) .f32 0x3F800000#32)) (upperOf (bitOf lanes (Scalar.ofBits (F := Ideal) .f32 0x3E800000#32))) := by
  unfold kernelRun0_A.sl.r_122
  simp only [lanes_eq]
  rfl

theorem r_123_eq (c : Dev nD) (arg6 : Memref sig .tc .vmem S100x256 .f32) (fh0 : HbBuf0 (F := Ideal) c hbM0_0) :
    kernelRun0_A.sl.r_123 (F := Ideal) c arg6 fh0 = maximumf (subf keys (partnerOf keys (flipLane 4#32))) (broadcast S8x128 (Scalar.ofBits (F := Ideal) .f32 0x00000000#32)) := by
  unfold kernelRun0_A.sl.r_123
  simp only [r_117_eq, r_119_eq]
  rfl

theorem r_124_eq (c : Dev nD) (arg6 : Memref sig .tc .vmem S100x256 .f32) (fh0 : HbBuf0 (F := Ideal) c hbM0_0) :
    kernelRun0_A.sl.r_124 (F := Ideal) c arg6 fh0 = keys := by
  unfold kernelRun0_A.sl.r_124
  simp only [r_117_eq, r_119_eq, r_121_eq, r_122_eq, r_123_eq]
  refine Eq.trans (b := blend (swapOf (upperOf (bitOf lanes (Scalar.ofBits (F := Ideal) .f32 0x3E800000#32))) (partnerOf keys (flipLane 4#32)) keys) (partnerOf keys (flipLane 4#32)) keys) rfl ?_
  simp only [stage_4]

theorem r_125_eq (c : Dev nD) (arg6 : Memref sig .tc .vmem S100x256 .f32) (fh0 : HbBuf0 (F := Ideal) c hbM0_0) :
    kernelRun0_A.sl.r_125 (F := Ideal) c arg6 fh0 = lanes := by
  unfold kernelRun0_A.sl.r_125
  simp only [r_118_eq, r_120_eq, r_121_eq, r_122_eq, r_123_eq]
  refine Eq.trans (b := blend (swapOf (upperOf (bitOf lanes (Scalar.ofBits (F := Ideal) .f32 0x3E800000#32))) (partnerOf keys (flipLane 4#32)) keys) (partnerOf lanes (flipLane 4#32)) lanes) rfl ?_
  simp only [stage_4]

theorem r_126_eq (c : Dev nD) (arg6 : Memref sig .tc .vmem S100x256 .f32) (fh0 : HbBuf0 (F := Ideal) c hbM0_0) :
    kernelRun0_A.sl.r_126 (F := Ideal) c arg6 fh0 = partnerOf keys (flipLane 2#32) := by
  unfold kernelRun0_A.sl.r_126
  simp only [r_117_eq, r_119_eq, r_121_eq, r_122_eq, r_123_eq]
  refine Eq.trans (b := partnerOf (blend (swapOf (upperOf (bitOf lanes (Scalar.ofBits (F := Ideal) .f32 0x3E800000#32))) (partnerOf keys (flipLane 4#32)) keys) (partnerOf keys (flipLane 4#32)) keys) (flipLane 2#32)) rfl ?_
  simp only [stage_4]

theorem r_127_eq (c : Dev nD) (arg6 : Memref sig .tc .vmem S100x256 .f32) (fh0 : HbBuf0 (F := Ideal) c hbM0_0) :
    kernelRun0_A.sl.r_127 (F := Ideal) c arg6 fh0 = partnerOf lanes (flipLane 2#32) := by
  unfold kernelRun0_A.sl.r_127
  simp only [r_118_eq, r_120_eq, r_121_eq, r_122_eq, r_123_eq]
  refine Eq.trans (b := partnerOf (blend (swapOf (upperOf (bitOf lanes (Scalar.ofBits (F := Ideal) .f32 0x3E800000#32))) (partnerOf keys (flipLane 4#32)) keys) (partnerOf lanes (flipLane 4#32)) lanes) (flipLane 2#32)) rfl ?_
  simp only [stage_4]

theorem r_128_eq :
    kernelRun0_A.sl.r_128 (F := Ideal) = bitOf lanes (Scalar.ofBits (F := Ideal) .f32 0x3F000000#32) := by
  unfold kernelRun0_A.sl.r_128
  simp only [lanes_eq]
  rfl

theorem r_129_eq :
    kernelRun0_A.sl.r_129 (F := Ideal) = cmpf .one (bitOf lanes (Scalar.ofBits (F := Ideal) .f32 0x3F000000#32)) (broadcast S8x128 (Scalar.ofBits (F := Ideal) .f32 0x00000000#32)) := by
  unfold kernelRun0_A.sl.r_129
  simp only [lanes_eq]
  rfl

theorem r_130_eq (c : Dev nD) (arg6 : Memref sig .tc .vmem S100x256 .f32) (fh0 : HbBuf0 (F := Ideal) c hbM0_0) :
    kernelRun0_A.sl.r_130 (F := Ideal) c arg6 fh0 = keys := by
  unfold kernelRun0_A.sl.r_130
  simp only [r_124_eq, r_126_eq, r_128_eq, r_129_eq]
  refine Eq.trans (b := blend (swapOf (upperOf (bitOf lanes (Scalar.ofBits (F := Ideal) .f32 0x3F000000#32))) (partnerOf keys (flipLane 2#32)) keys) (partnerOf keys (flipLane 2#32)) keys) rfl ?_
  simp only [stage_2]

theorem r_131_eq (c : Dev nD) (arg6 : Memref sig .tc .vmem S100x256 .f32) (fh0 : HbBuf0 (F := Ideal) c hbM0_0) :
    kernelRun0_A.sl.r_131 (F := Ideal) c arg6 fh0 = lanes := by
  unfold kernelRun0_A.sl.r_131
  simp only [r_124_eq, r_125_eq, r_126_eq, r_127_eq, r_128_eq, r_129_eq]
  refine Eq.trans (b := blend (swapOf (upperOf (bitOf lanes (Scalar.ofBits (F := Ideal) .f32 0x3F000000#32))) (partnerOf keys (flipLane 2#32)) keys) (partnerOf lanes (flipLane 2#32)) lanes) rfl ?_
  simp only [stage_2]

theorem r_132_eq (c : Dev nD) (arg6 : Memref sig .tc .vmem S100x256 .f32) (fh0 : HbBuf0 (F := Ideal) c hbM0_0) :
    kernelRun0_A.sl.r_132 (F := Ideal) c arg6 fh0 = partnerOf keys (flipLane 1#32) := by
  unfold kernelRun0_A.sl.r_132
  simp only [r_130_eq]
  rfl

theorem r_133_eq (c : Dev nD) (arg6 : Memref sig .tc .vmem S100x256 .f32) (fh0 : HbBuf0 (F := Ideal) c hbM0_0) :
    kernelRun0_A.sl.r_133 (F := Ideal) c arg6 fh0 = partnerOf lanes (flipLane 1#32) := by
  unfold kernelRun0_A.sl.r_133
  simp only [r_131_eq]
  rfl

theorem r_134_eq :
    kernelRun0_A.sl.r_134 (F := Ideal) = upperOf (bitOf lanes (Scalar.ofBits (F := Ideal) .f32 0x3F800000#32)) := by
  unfold kernelRun0_A.sl.r_134
  simp only [lanes_eq]
  rfl

theorem r_135_eq (c : Dev nD) (arg6 : Memref sig .tc .vmem S100x256 .f32) (fh0 : HbBuf0 (F := Ideal) c hbM0_0) :
    kernelRun0_A.sl.r_135 (F := Ideal) c arg6 fh0 = greater (partnerOf keys (flipLane 1#32)) keys := by
  unfold kernelRun0_A.sl.r_135
  simp only [r_130_eq]
  rfl

theorem r_136_eq (c : Dev nD) (arg6 : Memref sig .tc .vmem S100x256 .f32) (fh0 : HbBuf0 (F := Ideal) c hbM0_0) :
    kernelRun0_A.sl.r_136 (F := Ideal) c arg6 fh0 = keys := by
  unfold kernelRun0_A.sl.r_136
  simp only [r_130_eq, r_132_eq, r_134_eq, r_135_eq]
  refine Eq.trans (b := blend (swapOf (upperOf (bitOf lanes (Scalar.ofBits (F := Ideal) .f32 0x3F800000#32))) (partnerOf keys (flipLane 1#32)) keys) (partnerOf keys (flipLane 1#32)) keys) rfl ?_
  simp only [stage_1]

theorem r_137_eq (c : Dev nD) (arg6 : Memref sig .tc .vmem S100x256 .f32) (fh0 : HbBuf0 (F := Ideal) c hbM0_0) :
    kernelRun0_A.sl.r_137 (F := Ideal) c arg6 fh0 = lanes := by
  unfold kernelRun0_A.sl.r_137
  simp only [r_130_eq, r_131_eq, r_132_eq, r_133_eq, r_134_eq, r_135_eq]
  refine Eq.trans (b := blend (swapOf (upperOf (bitOf lanes (Scalar.ofBits (F := Ideal) .f32 0x3F800000#32))) (partnerOf keys (flipLane 1#32)) keys) (partnerOf lanes (flipLane 1#32)) lanes) rfl ?_
  simp only [stage_1]

theorem r_138_eq (c : Dev nD) (arg6 : Memref sig .tc .vmem S100x256 .f32) (fh0 : HbBuf0 (F := Ideal) c hbM0_0) :
    kernelRun0_A.sl.r_138 (F := Ideal) c arg6 fh0 = partnerOf keys (flipLane 127#32) := by
  unfold kernelRun0_A.sl.r_138
  simp only [r_130_eq, r_132_eq, r_134_eq, r_135_eq]
  refine Eq.trans (b := partnerOf (blend (swapOf (upperOf (bitOf lanes (Scalar.ofBits (F := Ideal) .f32 0x3F800000#32))) (partnerOf keys (flipLane 1#32)) keys) (partnerOf keys (flipLane 1#32)) keys) (flipLane 127#32)) rfl ?_
  simp only [stage_1]

theorem r_139_eq (c : Dev nD) (arg6 : Memref sig .tc .vmem S100x256 .f32) (fh0 : HbBuf0 (F := Ideal) c hbM0_0) :
    kernelRun0_A.sl.r_139 (F := Ideal) c arg6 fh0 = partnerOf lanes (flipLane 127#32) := by
  unfold kernelRun0_A.sl.r_139
  simp only [r_130_eq, r_131_eq, r_132_eq, r_133_eq, r_134_eq, r_135_eq]
  refine Eq.trans (b := partnerOf (blend (swapOf (upperOf (bitOf lanes (Scalar.ofBits (F := Ideal) .f32 0x3F800000#32))) (partnerOf keys (flipLane 1#32)) keys) (partnerOf lanes (flipLane 1#32)) lanes) (flipLane 127#32)) rfl ?_
  simp only [stage_1]

theorem r_140_eq (c : Dev nD) (arg6 : Memref sig .tc .vmem S100x256 .f32) (fh0 : HbBuf0 (F := Ideal) c hbM0_0) :
    kernelRun0_A.sl.r_140 (F := Ideal) c arg6 fh0 = swapOf (upperOf (bitOf lanes (Scalar.ofBits (F := Ideal) .f32 0x3C800000#32))) (partnerOf keys (flipLane 127#32)) keys := by
  unfold kernelRun0_A.sl.r_140
  simp only [lanes_eq, r_136_eq, r_138_eq]
  rfl

theorem r_141_eq (c : Dev nD) (arg6 : Memref sig .tc .vmem S100x256 .f32) (fh0 : HbBuf0 (F := Ideal) c hbM0_0) :
    kernelRun0_A.sl.r_141 (F := Ideal) c arg6 fh0 = mulf (swapOf (upperOf (bitOf lanes (Scalar.ofBits (F := Ideal) .f32 0x3C800000#32))) (partnerOf keys (flipLane 127#32)) keys) (partnerOf keys (flipLane 127#32)) := by
  unfold kernelRun0_A.sl.r_141
  simp only [lanes_eq, r_136_eq, r_138_eq]
  rfl

theorem r_142_eq (c : Dev nD) (arg6 : Memref sig .tc .vmem S100x256 .f32) (fh0 : HbBuf0 (F := Ideal) c hbM0_0) :
    kernelRun0_A.sl.r_142 (F := Ideal) c arg6 fh0 = subf (broadcast S8x128 (Scalar.ofBits (F := Ideal) .f32 0x3F800000#32)) (swapOf (upperOf (bitOf lanes (Scalar.ofBits (F := Ideal) .f32 0x3C800000#32))) (partnerOf keys (flipLane 127#32)) keys) := by
  unfold kernelRun0_A.sl.r_142
  simp only [lanes_eq, r_136_eq, r_138_eq]
  rfl

theorem r_143_eq (c : Dev nD) (arg6 : Memref sig .tc .vmem S100x256 .f32) (fh0 : HbBuf0 (F := Ideal) c hbM0_0) :
    kernelRun0_A.sl.r_143 (F := Ideal) c arg6 fh0 = keys := by
  unfold kernelRun0_A.sl.r_143
  simp only [r_136_eq, r_141_eq, r_142_eq]
  refine Eq.trans (b := blend (swapOf (upperOf (bitOf lanes (Scalar.ofBits (F := Ideal) .f32 0x3C800000#32))) (partnerOf keys (flipLane 127#32)) keys) (partnerOf keys (flipLane 127#32)) keys) rfl ?_
  simp only [stage_127]

theorem r_144_eq (c : Dev nD) (arg6 : Memref sig .tc .vmem S100x256 .f32) (fh0 : HbBuf0 (F := Ideal) c hbM0_0) :
    kernelRun0_A.sl.r_144 (F := Ideal) c arg6 fh0 = lanes := by
  unfold kernelRun0_A.sl.r_144
  simp only [r_137_eq, r_139_eq, r_140_eq]
  refine Eq.trans (b := blend (swapOf (upperOf (bitOf lanes (Scalar.ofBits (F := Ideal) .f32 0x3C800000#32))) (partnerOf keys (flipLane 127#32)) keys) (partnerOf lanes (flipLane 127#32)) lanes) rfl ?_
  simp only [stage_127]

theorem r_145_eq (c : Dev nD) (arg6 : Memref sig .tc .vmem S100x256 .f32) (fh0 : HbBuf0 (F := Ideal) c hbM0_0) :
    kernelRun0_A.sl.r_145 (F := Ideal) c arg6 fh0 = partnerOf keys (flipLane 32#32) := by
  unfold kernelRun0_A.sl.r_145
  simp only [r_136_eq, r_141_eq, r_142_eq]
  refine Eq.trans (b := partnerOf (blend (swapOf (upperOf (bitOf lanes (Scalar.ofBits (F := Ideal) .f32 0x3C800000#32))) (partnerOf keys (flipLane 127#32)) keys) (partnerOf keys (flipLane 127#32)) keys) (flipLane 32#32)) rfl ?_
  simp only [stage_127]

theorem r_146_eq (c : Dev nD) (arg6 : Memref sig .tc .vmem S100x256 .f32) (fh0 : HbBuf0 (F := Ideal) c hbM0_0) :
    kernelRun0_A.sl.r_146 (F := Ideal) c arg6 fh0 = partnerOf lanes (flipLane 32#32) := by
  unfold kernelRun0_A.sl.r_146
  simp only [r_137_eq, r_139_eq, r_140_eq]
  refine Eq.trans (b := partnerOf (blend (swapOf (upperOf (bitOf lanes (Scalar.ofBits (F := Ideal) .f32 0x3C800000#32))) (partnerOf keys (flipLane 127#32)) keys) (partnerOf lanes (flipLane 127#32)) lanes) (flipLane 32#32)) rfl ?_
  simp only [stage_127]

theorem r_147_eq :
    kernelRun0_A.sl.r_147 (F := Ideal) = upperOf (bitOf lanes (Scalar.ofBits (F := Ideal) .f32 0x3D000000#32)) := by
  unfold kernelRun0_A.sl.r_147
  simp only [lanes_eq]
  rfl

theorem r_148_eq (c : Dev nD) (arg6 : Memref sig .tc .vmem S100x256 .f32) (fh0 : HbBuf0 (F := Ideal) c hbM0_0) :
    kernelRun0_A.sl.r_148 (F := Ideal) c arg6 fh0 = subf (partnerOf keys (flipLane 32#32)) keys := by
  unfold kernelRun0_A.sl.r_148
  simp only [r_136_eq, r_141_eq, r_142_eq]
  refine Eq.trans (b := subf (partnerOf (blend (swapOf (upperOf (bitOf lanes (Scalar.ofBits (F := Ideal) .f32 0x3C800000#32))) (partnerOf keys (flipLane 127#32)) keys) (partnerOf keys (flipLane 127#32)) keys) (flipLane 32#32)) (blend (swapOf (upperOf (bitOf lanes (Scalar.ofBits (F := Ideal) .f32 0x3C800000#32))) (partnerOf keys (flipLane 127#32)) keys) (partnerOf keys (flipLane 127#32)) keys)) rfl ?_
  simp only [stage_127]

theorem r_149_eq (c : Dev nD) (arg6 : Memref sig .tc .vmem S100x256 .f32) (fh0 : HbBuf0 (F := Ideal) c hbM0_0) :
    kernelRun0_A.sl.r_149 (F := Ideal) c arg6 fh0 = keys := by
  unfold kernelRun0_A.sl.r_149
  simp only [r_143_eq, r_145_eq, r_147_eq, r_148_eq]
  refine Eq.trans (b := blend (swapOf (upperOf (bitOf lanes (Scalar.ofBits (F := Ideal) .f32 0x3D000000#32))) (partnerOf keys (flipLane 32#32)) keys) (partnerOf keys (flipLane 32#32)) keys) rfl ?_
  simp only [stage_32]

theorem r_150_eq (c : Dev nD) (arg6 : Memref sig .tc .vmem S100x256 .f32) (fh0 : HbBuf0 (F := Ideal) c hbM0_0) :
    kernelRun0_A.sl.r_150 (F := Ideal) c arg6 fh0 = lanes := by
  unfold kernelRun0_A.sl.r_150
  simp only [r_143_eq, r_144_eq, r_145_eq, r_146_eq, r_147_eq, r_148_eq]
  refine Eq.trans (b := blend (swapOf (upperOf (bitOf lanes (Scalar.ofBits (F := Ideal) .f32 0x3D000000#32))) (partnerOf keys (flipLane 32#32)) keys) (partnerOf lanes (flipLane 32#32)) lanes) rfl ?_
  simp only [stage_32]

theorem r_151_eq (c : Dev nD) (arg6 : Memref sig .tc .vmem S100x256 .f32) (fh0 : HbBuf0 (F := Ideal) c hbM0_0) :
    kernelRun0_A.sl.r_151 (F := Ideal) c arg6 fh0 = partnerOf keys (flipLane 16#32) := by
  unfold kernelRun0_A.sl.r_151
  simp only [r_143_eq, r_145_eq, r_147_eq, r_148_eq]
  refine Eq.trans (b := partnerOf (blend (swapOf (upperOf (bitOf lanes (Scalar.ofBits (F := Ideal) .f32 0x3D000000#32))) (partnerOf keys (flipLane 32#32)) keys) (partnerOf keys (flipLane 32#32)) keys) (flipLane 16#32)) rfl ?_
  simp only [stage_32]

theorem r_152_eq (c : Dev nD) (arg6 : Memref sig .tc .vmem S100x256 .f32) (fh0 : HbBuf0 (F := Ideal) c hbM0_0) :
    kernelRun0_A.sl.r_152 (F := Ideal) c arg6 fh0 = partnerOf lanes (flipLane 16#32) := by
  unfold kernelRun0_A.sl.r_152
  simp only [r_150_eq]
  rfl

theorem r_153_eq (c : Dev nD) (arg6 : Memref sig .tc .vmem S100x256 .f32) (fh0 : HbBuf0 (F := Ideal) c hbM0_0) :
    kernelRun0_A.sl.r_153 (F := Ideal) c arg6 fh0 = mulf (upperOf (bitOf lanes (Scalar.ofBits (F := Ideal) .f32 0x3D800000#32))) (greater (partnerOf keys (flipLane 16#32)) keys) := by
  unfold kernelRun0_A.sl.r_153
  simp only [lanes_eq, r_149_eq, r_151_eq]
  rfl

theorem r_154_eq :
    kernelRun0_A.sl.r_154 (F := Ideal) = subf (broadcast S8x128 (Scalar.ofBits (F := Ideal) .f32 0x3F800000#32)) (upperOf (bitOf lanes (Scalar.ofBits (F := Ideal) .f32 0x3D800000#32))) := by
  unfold kernelRun0_A.sl.r_154
  simp only [lanes_eq]
  rfl

theorem r_155_eq (c : Dev nD) (arg6 : Memref sig .tc .vmem S100x256 .f32) (fh0 : HbBuf0 (F := Ideal) c hbM0_0) :
    kernelRun0_A.sl.r_155 (F := Ideal) c arg6 fh0 = maximumf (subf keys (partnerOf keys (flipLane 16#32))) (broadcast S8x128 (Scalar.ofBits (F := Ideal) .f32 0x00000000#32)) := by
  unfold kernelRun0_A.sl.r_155
  simp only [r_149_eq, r_151_eq]
  rfl

theorem r_156_eq (c : Dev nD) (arg6 : Memref sig .tc .vmem S100x256 .f32) (fh0 : HbBuf0 (F := Ideal) c hbM0_0) :
    kernelRun0_A.sl.r_156 (F := Ideal) c arg6 fh0 = keys := by
  unfold kernelRun0_A.sl.r_156
  simp only [r_149_eq, r_151_eq, r_153_eq, r_154_eq, r_155_eq]
  refine Eq.trans (b := blend (swapOf (upperOf (bitOf lanes (Scalar.ofBits (F := Ideal) .f32 0x3D800000#32))) (partnerOf keys (flipLane 16#32)) keys) (partnerOf keys (flipLane 16#32)) keys) rfl ?_
  simp only [stage_16]

theorem r_157_eq (c : Dev nD) (arg6 : Memref sig .tc .vmem S100x256 .f32) (fh0 : HbBuf0 (F := Ideal) c hbM0_0) :
    kernelRun0_A.sl.r_157 (F := Ideal) c arg6 fh0 = lanes := by
  unfold kernelRun0_A.sl.r_157
  simp only [r_150_eq, r_152_eq, r_153_eq, r_154_eq, r_155_eq]
  refine Eq.trans (b := blend (swapOf (upperOf (bitOf lanes (Scalar.ofBits (F := Ideal) .f32 0x3D800000#32))) (partnerOf keys (flipLane 16#32)) keys) (partnerOf lanes (flipLane 16#32)) lanes) rfl ?_
  simp only [stage_16]

theorem r_158_eq (c : Dev nD) (arg6 : Memref sig .tc .vmem S100x256 .f32) (fh0 : HbBuf0 (F := Ideal) c hbM0_0) :
    kernelRun0_A.sl.r_158 (F := Ideal) c arg6 fh0 = partnerOf keys (flipLane 8#32) := by
  unfold kernelRun0_A.sl.r_158
  simp only [r_149_eq, r_151_eq, r_153_eq, r_154_eq, r_155_eq]
  refine Eq.trans (b := partnerOf (blend (swapOf (upperOf (bitOf lanes (Scalar.ofBits (F := Ideal) .f32 0x3D800000#32))) (partnerOf keys (flipLane 16#32)) keys) (partnerOf keys (flipLane 16#32)) keys) (flipLane 8#32)) rfl ?_
  simp only [stage_16]

theorem r_159_eq (c : Dev nD) (arg6 : Memref sig .tc .vmem S100x256 .f32) (fh0 : HbBuf0 (F := Ideal) c hbM0_0) :
    kernelRun0_A.sl.r_159 (F := Ideal) c arg6 fh0 = partnerOf lanes (flipLane 8#32) := by
  unfold kernelRun0_A.sl.r_159
  simp only [r_150_eq, r_152_eq, r_153_eq, r_154_eq, r_155_eq]
  refine Eq.trans (b := partnerOf (blend (swapOf (upperOf (bitOf lanes (Scalar.ofBits (F := Ideal) .f32 0x3D800000#32))) (partnerOf keys (flipLane 16#32)) keys) (partnerOf lanes (flipLane 16#32)) lanes) (flipLane 8#32)) rfl ?_
  simp only [stage_16]

theorem r_160_eq :
    kernelRun0_A.sl.r_160 (F := Ideal) = bitOf lanes (Scalar.ofBits (F := Ideal) .f32 0x3E000000#32) := by
  unfold kernelRun0_A.sl.r_160
  simp only [lanes_eq]
  rfl

theorem r_161_eq :
    kernelRun0_A.sl.r_161 (F := Ideal) = cmpf .one (bitOf lanes (Scalar.ofBits (F := Ideal) .f32 0x3E000000#32)) (broadcast S8x128 (Scalar.ofBits (F := Ideal) .f32 0x00000000#32)) := by
  unfold kernelRun0_A.sl.r_161
  simp only [lanes_eq]
  rfl

theorem r_162_eq (c : Dev nD) (arg6 : Memref sig .tc .vmem S100x256 .f32) (fh0 : HbBuf0 (F := Ideal) c hbM0_0) :
    kernelRun0_A.sl.r_162 (F := Ideal) c arg6 fh0 = keys := by
  unfold kernelRun0_A.sl.r_162
  simp only [r_156_eq, r_158_eq, r_160_eq, r_161_eq]
  refine Eq.trans (b := blend (swapOf (upperOf (bitOf lanes (Scalar.ofBits (F := Ideal) .f32 0x3E000000#32))) (partnerOf keys (flipLane 8#32)) keys) (partnerOf keys (flipLane 8#32)) keys) rfl ?_
  simp only [stage_8]

theorem r_163_eq (c : Dev nD) (arg6 : Memref sig .tc .vmem S100x256 .f32) (fh0 : HbBuf0 (F := Ideal) c hbM0_0) :
    kernelRun0_A.sl.r_163 (F := Ideal) c arg6 fh0 = lanes := by
  unfold kernelRun0_A.sl.r_163
  simp only [r_156_eq, r_157_eq, r_158_eq, r_159_eq, r_160_eq, r_161_eq]
  refine Eq.trans (b := blend (swapOf (upperOf (bitOf lanes (Scalar.ofBits (F := Ideal) .f32 0x3E000000#32))) (partnerOf keys (flipLane 8#32)) keys) (partnerOf lanes (flipLane 8#32)) lanes) rfl ?_
  simp only [stage_8]

theorem r_164_eq (c : Dev nD) (arg6 : Memref sig .tc .vmem S100x256 .f32) (fh0 : HbBuf0 (F := Ideal) c hbM0_0) :
    kernelRun0_A.sl.r_164 (F := Ideal) c arg6 fh0 = partnerOf keys (flipLane 4#32) := by
  unfold kernelRun0_A.sl.r_164
  simp only [r_162_eq]
  rfl

theorem r_165_eq (c : Dev nD) (arg6 : Memref sig .tc .vmem S100x256 .f32) (fh0 : HbBuf0 (F := Ideal) c hbM0_0) :
    kernelRun0_A.sl.r_165 (F := Ideal) c arg6 fh0 = partnerOf lanes (flipLane 4#32) := by
  unfold kernelRun0_A.sl.r_165
  simp only [r_163_eq]
  rfl

theorem r_166_eq :
    kernelRun0_A.sl.r_166 (F := Ideal) = upperOf (bitOf lanes (Scalar.ofBits (F := Ideal) .f32 0x3E800000#32)) := by
  unfold kernelRun0_A.sl.r_166
  simp only [lanes_eq]
  rfl

theorem r_167_eq (c : Dev nD) (arg6 : Memref sig .tc .vmem S100x256 .f32) (fh0 : HbBuf0 (F := Ideal) c hbM0_0) :
    kernelRun0_A.sl.r_167 (F := Ideal) c arg6 fh0 = greater (partnerOf keys (flipLane 4#32)) keys := by
  unfold kernelRun0_A.sl.r_167
  simp only [r_162_eq]
  rfl

theorem r_168_eq (c : Dev nD) (arg6 : Memref sig .tc .vmem S100x256 .f32) (fh0 : HbBuf0 (F := Ideal) c hbM0_0) :
    kernelRun0_A.sl.r_168 (F := Ideal) c arg6 fh0 = keys := by
  unfold kernelRun0_A.sl.r_168
  simp only [r_162_eq, r_164_eq, r_166_eq, r_167_eq]
  refine Eq.trans (b := blend (swapOf (upperOf (bitOf lanes (Scalar.ofBits (F := Ideal) .f32 0x3E800000#32))) (partnerOf keys (flipLane 4#32)) keys) (partnerOf keys (flipLane 4#32)) keys) rfl ?_
  simp only [stage_4]

theorem r_169_eq (c : Dev nD) (arg6 : Memref sig .tc .vmem S100x256 .f32) (fh0 : HbBuf0 (F := Ideal) c hbM0_0) :
    kernelRun0_A.sl.r_169 (F := Ideal) c arg6 fh0 = lanes := by
  unfold kernelRun0_A.sl.r_169
  simp only [r_162_eq, r_163_eq, r_164_eq, r_165_eq, r_166_eq, r_167_eq]
  refine Eq.trans (b := blend (swapOf (upperOf (bitOf lanes (Scalar.ofBits (F := Ideal) .f32 0x3E800000#32))) (partnerOf keys (flipLane 4#32)) keys) (partnerOf lanes (flipLane 4#32)) lanes) rfl ?_
  simp only [stage_4]

theorem r_170_eq (c : Dev nD) (arg6 : Memref sig .tc .vmem S100x256 .f32) (fh0 : HbBuf0 (F := Ideal) c hbM0_0) :
    kernelRun0_A.sl.r_170 (F := Ideal) c arg6 fh0 = partnerOf keys (flipLane 2#32) := by
  unfold kernelRun0_A.sl.r_170
  simp only [r_162_eq, r_164_eq, r_166_eq, r_167_eq]
  refine Eq.trans (b := partnerOf (blend (swapOf (upperOf (bitOf lanes (Scalar.ofBits (F := Ideal) .f32 0x3E800000#32))) (partnerOf keys (flipLane 4#32)) keys) (partnerOf keys (flipLane 4#32)) keys) (flipLane 2#32)) rfl ?_
  simp only [stage_4]

theorem r_171_eq (c : Dev nD) (arg6 : Memref sig .tc .vmem S100x256 .f32) (fh0 : HbBuf0 (F := Ideal) c hbM0_0) :
    kernelRun0_A.sl.r_171 (F := Ideal) c arg6 fh0 = partnerOf lanes (flipLane 2#32) := by
  unfold kernelRun0_A.sl.r_171
  simp only [r_162_eq, r_163_eq, r_164_eq, r_165_eq, r_166_eq, r_167_eq]
  refine Eq.trans (b := partnerOf (blend (swapOf (upperOf (bitOf lanes (Scalar.ofBits (F := Ideal) .f32 0x3E800000#32))) (partnerOf keys (flipLane 4#32)) keys) (partnerOf lanes (flipLane 4#32)) lanes) (flipLane 2#32)) rfl ?_
  simp only [stage_4]

theorem r_172_eq (c : Dev nD) (arg6 : Memref sig .tc .vmem S100x256 .f32) (fh0 : HbBuf0 (F := Ideal) c hbM0_0) :
    kernelRun0_A.sl.r_172 (F := Ideal) c arg6 fh0 = swapOf (upperOf (bitOf lanes (Scalar.ofBits (F := Ideal) .f32 0x3F000000#32))) (partnerOf keys (flipLane 2#32)) keys := by
  unfold kernelRun0_A.sl.r_172
  simp only [lanes_eq, r_168_eq, r_170_eq]
  rfl

theorem r_173_eq (c : Dev nD) (arg6 : Memref sig .tc .vmem S100x256 .f32) (fh0 : HbBuf0 (F := Ideal) c hbM0_0) :
    kernelRun0_A.sl.r_173 (F := Ideal) c arg6 fh0 = mulf (swapOf (upperOf (bitOf lanes (Scalar.ofBits (F := Ideal) .f32 0x3F000000#32))) (partnerOf keys (flipLane 2#32)) keys) (partnerOf keys (flipLane 2#32)) := by
  unfold kernelRun0_A.sl.r_173
  simp only [lanes_eq, r_168_eq, r_170_eq]
  rfl

theorem r_174_eq (c : Dev nD) (arg6 : Memref sig .tc .vmem S100x256 .f32) (fh0 : HbBuf0 (F := Ideal) c hbM0_0) :
    kernelRun0_A.sl.r_174 (F := Ideal) c arg6 fh0 = subf (broadcast S8x128 (Scalar.ofBits (F := Ideal) .f32 0x3F800000#32)) (swapOf (upperOf (bitOf lanes (Scalar.ofBits (F := Ideal) .f32 0x3F000000#32))) (partnerOf keys (flipLane 2#32)) keys) := by
  unfold kernelRun0_A.sl.r_174
  simp only [lanes_eq, r_168_eq, r_170_eq]
  rfl

theorem r_175_eq (c : Dev nD) (arg6 : Memref sig .tc .vmem S100x256 .f32) (fh0 : HbBuf0 (F := Ideal) c hbM0_0) :
    kernelRun0_A.sl.r_175 (F := Ideal) c arg6 fh0 = keys := by
  unfold kernelRun0_A.sl.r_175
  simp only [r_168_eq, r_173_eq, r_174_eq]
  refine Eq.trans (b := blend (swapOf (upperOf (bitOf lanes (Scalar.ofBits (F := Ideal) .f32 0x3F000000#32))) (partnerOf keys (flipLane 2#32)) keys) (partnerOf keys (flipLane 2#32)) keys) rfl ?_
  simp only [stage_2]

theorem r_176_eq (c : Dev nD) (arg6 : Memref sig .tc .vmem S100x256 .f32) (fh0 : HbBuf0 (F := Ideal) c hbM0_0) :
    kernelRun0_A.sl.r_176 (F := Ideal) c arg6 fh0 = lanes := by
  unfold kernelRun0_A.sl.r_176
  simp only [r_169_eq, r_171_eq, r_172_eq]
  refine Eq.trans (b := blend (swapOf (upperOf (bitOf lanes (Scalar.ofBits (F := Ideal) .f32 0x3F000000#32))) (partnerOf keys (flipLane 2#32)) keys) (partnerOf lanes (flipLane 2#32)) lanes) rfl ?_
  simp only [stage_2]

theorem r_177_eq (c : Dev nD) (arg6 : Memref sig .tc .vmem S100x256 .f32) (fh0 : HbBuf0 (F := Ideal) c hbM0_0) :
    kernelRun0_A.sl.r_177 (F := Ideal) c arg6 fh0 = partnerOf keys (flipLane 1#32) := by
  unfold kernelRun0_A.sl.r_177
  simp only [r_168_eq, r_173_eq, r_174_eq]
  refine Eq.trans (b := partnerOf (blend (swapOf (upperOf (bitOf lanes (Scalar.ofBits (F := Ideal) .f32 0x3F000000#32))) (partnerOf keys (flipLane 2#32)) keys) (partnerOf keys (flipLane 2#32)) keys) (flipLane 1#32)) rfl ?_
  simp only [stage_2]

theorem r_178_eq (c : Dev nD) (arg6 : Memref sig .tc .vmem S100x256 .f32) (fh0 : HbBuf0 (F := Ideal) c hbM0_0) :
    kernelRun0_A.sl.r_178 (F := Ideal) c arg6 fh0 = partnerOf lanes (flipLane 1#32) := by
  unfold kernelRun0_A.sl.r_178
  simp only [r_169_eq, r_171_eq, r_172_eq]
  refine Eq.trans (b := partnerOf (blend (swapOf (upperOf (bitOf lanes (Scalar.ofBits (F := Ideal) .f32 0x3F000000#32))) (partnerOf keys (flipLane 2#32)) keys) (partnerOf lanes (flipLane 2#32)) lanes) (flipLane 1#32)) rfl ?_
  simp only [stage_2]

theorem r_179_eq :
    kernelRun0_A.sl.r_179 (F := Ideal) = upperOf (bitOf lanes (Scalar.ofBits (F := Ideal) .f32 0x3F800000#32)) := by
  unfold kernelRun0_A.sl.r_179
  simp only [lanes_eq]
  rfl

theorem r_180_eq (c : Dev nD) (arg6 : Memref sig .tc .vmem S100x256 .f32) (fh0 : HbBuf0 (F := Ideal) c hbM0_0) :
    kernelRun0_A.sl.r_180 (F := Ideal) c arg6 fh0 = subf (partnerOf keys (flipLane 1#32)) keys := by
  unfold kernelRun0_A.sl.r_180
  simp only [r_168_eq, r_173_eq, r_174_eq]
  refine Eq.trans (b := subf (partnerOf (blend (swapOf (upperOf (bitOf lanes (Scalar.ofBits (F := Ideal) .f32 0x3F000000#32))) (partnerOf keys (flipLane 2#32)) keys) (partnerOf keys (flipLane 2#32)) keys) (flipLane 1#32)) (blend (swapOf (upperOf (bitOf lanes (Scalar.ofBits (F := Ideal) .f32 0x3F000000#32))) (partnerOf keys (flipLane 2#32)) keys) (partnerOf keys (flipLane 2#32)) keys)) rfl ?_
  simp only [stage_2]

end Cert.KernelIdeal.Hand

end
-- ==== Proof.KernelValue.lean ====
/-
  The kernel's result.

  The sort leaves the lane numbers where they are, so the ten chosen lanes are the first ten and the embedding is a table of zeros and ones
  (`chosen_apply`). The rest is two matrix products: the output array holds, at component `o` and point `n`, the second layer of the network
  on row `n` of that table (`network`), and the host's last operation transposes it.
-/
module

public import proofs.«01_k».proof.Proof.KernelChain
public import Idealize.ShloMosaic.Lib.VecWindow
public import Idealize.ShloMosaic.Lib.Pipeline.ValueKit.Geometry

@[expose] public section

noncomputable section

namespace Cert.KernelIdeal.Hand

open Cert.KernelIdeal Cert.KernelIdeal.Gen Idealize.ShloMosaic Idealize.ShloMosaic.TcCoe Idealize.ShloMosaic.StableHlo
open Idealize.SL.Sem

/-! ## The embedding -/

/-- Row `n` of the first ten columns of the identity. -/
def oneHot (n : Fin 100) (d : Fin 10) : EReal := if n.val = d.val then 1 else 0

/-- 1 where a lane number equals the row number, 0 elsewhere. -/
def matches_ (sel : FVec Ideal S8x128 .f32) : FVec Ideal S100x10 .f32 :=
  have v2371 : FVec Ideal S100x10 .f32 := broadcast S100x10 (Scalar.ofBits .f32 0x00000000#32)
  have v2373 : FVec Ideal S100x10 .f32 := broadcastTo S100x10 (extractStridedSlice S1x10 ![0, 0] sel slices_S8x128_o0_0_S1x10) broadcasts_S1x10_S100x10
  have v2376 : FVec Ideal S100x10 .f32 := sitofp .f32 (iota .tc S100x10 32 [0] iota_S100x10_d0_w32)
  have v2378 : FVec Ideal S100x10 .f32 := absf (subf v2376 (addf v2371 v2373))
  have v2384 : FVec Ideal S100x10 .f32 := select (cmpf .olt v2378 (constant S100x10 .f32 0x00000000#32)) (constant S100x10 .f32 0xBF800000#32) (constant S100x10 .f32 0x3F800000#32)
  have v2387 : IVec S100x10 1 := cmpf .ogt (absf v2378) (broadcast S100x10 (Scalar.ofBits .f32 0x00000000#32))
  subf (broadcast S100x10 (Scalar.ofBits .f32 0x3F800000#32)) (select v2387 v2384 v2378)

theorem matches_apply (n : Fin 100) (d : Fin 10) :
    matches_ lanes (ix2 n d) = 1 - Ideal.sign (FloatOps.absf (F := Ideal) (φ := .f32) (((n.val : ℝ) : EReal) - (0 + ((d.val : ℝ) : EReal)))) := by
  rw [← Ideal.jnp_sign_eq_sign_f32, ← bits_one]
  have hn : FloatOps.sitofp (F := Ideal) .f32 (BitVec.ofNat 32 n.val) = ((n.val : ℝ) : EReal) := by
    show (((BitVec.ofNat 32 n.val).toInt : ℝ) : EReal) = _
    have h : (BitVec.ofNat 32 n.val).toInt = (n.val : ℤ) := by
      have := n.isLt
      rw [BitVec.toInt_eq_toNat_cond, BitVec.toNat_ofNat, Nat.mod_eq_of_lt (by omega), if_pos (by omega)]
    rw [h]; norm_num
  pointwise [matches_, lanes]
  rw [hn]

theorem chosen_apply (c : Dev nD) (arg6 : Memref sig .tc .vmem S100x256 .f32) (fh0 : HbBuf0 (F := Ideal) c hbM0_0) (n : Fin 100) (d : Fin 10) :
    kernelRun0_A.sl.r_181 (F := Ideal) c arg6 fh0 (ix2 n d) = oneHot n d := by
  have h : kernelRun0_A.sl.r_181 (F := Ideal) c arg6 fh0 = matches_ lanes := by
    unfold kernelRun0_A.sl.r_181
    simp only [r_175_eq, r_176_eq, r_177_eq, r_178_eq, r_179_eq, r_180_eq]
    refine Eq.trans (b := matches_ (blend (swapOf (upperOf (bitOf lanes (Scalar.ofBits (F := Ideal) .f32 0x3F800000#32))) (partnerOf keys (flipLane 1#32)) keys)
      (partnerOf lanes (flipLane 1#32)) lanes)) rfl ?_
    rw [stage_1]
  rw [h, matches_apply, oneHot, zero_add, ← EReal.coe_sub]
  show 1 - Ideal.sign (max _ (-_)) = _
  split_ifs with hn
  · rw [hn, sub_self, EReal.coe_zero, neg_zero, max_self, Ideal.sign_zero, sub_zero]
  · rw [Ideal.sign_of_pos, one_sub_one]
    have hne : (n.val : ℝ) ≠ (d.val : ℝ) := by exact_mod_cast hn
    rcases lt_or_gt_of_ne hne with h1 | h1
    · apply lt_max_of_lt_right
      rw [← EReal.coe_neg]
      exact EReal.coe_pos.2 (by linarith)
    · apply lt_max_of_lt_left
      exact EReal.coe_pos.2 (by linarith)

/-! ## The network -/

/-- The network on row `n` of the table: component `o`. -/
def network (W1 : FVec Ideal S512x10 .f32) (b1 : FVec Ideal S1x512 .f32) (W2 : FVec Ideal S10x512 .f32) (b2 : FVec Ideal S1x10 .f32)
    (o : Fin 10) (n : Fin 100) : EReal :=
  (∑ h : Fin 512, W2 (ix2 o h) * max ((∑ d : Fin 10, oneHot n d * W1 (ix2 h d)) + b1 (ix2 0 h)) 0) + b2 (ix2 0 o)

theorem output_apply (c : Dev nD) (arg6 : Memref sig .tc .vmem S100x256 .f32) (arg7 : Memref sig .tc .vmem S512x10 .f32)
    (arg8 : Memref sig .tc .vmem S1x512 .f32) (arg9 : Memref sig .tc .vmem S10x512 .f32) (arg10 : Memref sig .tc .vmem S1x10 .f32)
    (fh0 : HbBuf0 (F := Ideal) c hbM0_0) (fh1 : HbBuf0 (F := Ideal) c hbM0_1) (fh2 : HbBuf0 (F := Ideal) c hbM0_2)
    (fh3 : HbBuf0 (F := Ideal) c hbM0_3) (fh4 : HbBuf0 (F := Ideal) c hbM0_4) (o : Fin 10) (n : Fin 100) :
    k0_pay1 (kernelRun0_A.sl.r_182 c arg6 arg7 arg8 fh0 fh1 fh2) k0_pay226 (kernelRun0_A.sl.v2398 c arg9 fh3)
      (kernelRun0_A.sl.v2400 c arg10 fh4) (ix2 o n) = network fh1 fh2 fh3 fh4 o n := by
  have h1 : kernelRun0_A.sl.v2391 (F := Ideal) c arg7 fh1 = fh1 := View.readCov_full arg7.view inb_S512x10_S512x10_0_0 _ _ []
  have h2 : kernelRun0_A.sl.v2393 (F := Ideal) c arg8 fh2 = fh2 := View.readCov_full arg8.view inb_S1x512_S1x512_0_0 _ _ []
  have h3 : kernelRun0_A.sl.v2398 (F := Ideal) c arg9 fh3 = fh3 := View.readCov_full arg9.view inb_S10x512_S10x512_0_0 _ _ []
  have h4 : kernelRun0_A.sl.v2400 (F := Ideal) c arg10 fh4 = fh4 := View.readCov_full arg10.view inb_S1x10_S1x10_0_0 _ _ []
  rw [h3, h4]
  unfold kernelRun0_A.sl.r_182
  rw [h1, h2]
  have hr := chosen_apply c arg6 fh0
  generalize kernelRun0_A.sl.r_181 (F := Ideal) c arg6 fh0 = e at hr
  pointwise [k0_pay1, k0_pay226, k0_pay225, dot_S100x10_S512x10_S100x512_1_1_0_0_n_n, dot_S10x512_S100x512_S10x100_1_1_0_0_n_n, network]
  simp only [hr]

/-- What the one grid point leaves in the output window. -/
theorem out_eq (c : Dev nD) (arg5 : Memref sig .tc .vmem S10x100 .f32) (harg5 : arg5.IsWhole) (arg6 : Memref sig .tc .vmem S100x256 .f32) (harg6 : arg6.IsWhole) (arg7 : Memref sig .tc .vmem S512x10 .f32) (harg7 : arg7.IsWhole) (arg8 : Memref sig .tc .vmem S1x512 .f32) (harg8 : arg8.IsWhole) (arg9 : Memref sig .tc .vmem S10x512 .f32) (harg9 : arg9.IsWhole) (arg10 : Memref sig .tc .vmem S1x10 .f32) (harg10 : arg10.IsWhole)
    (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) :
    out0_A_0 (F := Ideal) c arg5 harg5 arg6 harg6 arg7 harg7 arg8 harg8 arg9 harg9 arg10 harg10 fh0 fh1 fh2 fh3 fh4
      = fun i => network fh1 fh2 fh3 fh4 (i 0) (i 1) := by
  unfold out0_A_0 kernelRun0_A
  dsimp only
  refine (View.read_writes_full VO0_0 VO0_0.junk inb_S10x100_S10x100_0_0 _ []).trans ?_
  funext i
  obtain ⟨o, n, rfl⟩ : ∃ o n, i = ix2 o n := ⟨i 0, i 1, (ix2_eta i).symm⟩
  exact output_apply c arg6 arg7 arg8 arg9 arg10 fh0 fh1 fh2 fh3 fh4 o n

variable (m : (ℓ : Loc nD τ sig) → Buf (Elt Ideal) ℓ)

/-- The output array after the launch. -/
theorem array_eq (c : Dev nD) :
    (dats m 0 c).arrAt 0 cfg0.N = fun i => network (V m c main_arg1) (V m c main_v0) (V m c main_arg3) (V m c main_v1) (i 0) (i 1) := by
  refine (dats m 0 c).arrAt_eq_of_after_last 0 ⟨0, by decide⟩ (by decide +kernel) _ fun j => ?_
  rw [after0_0]
  simp only [outsAt0, out_eq]
  rfl

end Cert.KernelIdeal.Hand

end
-- ==== Proof.RefRotation.lean ====
/-
  One rotation of the reference's loop, where the first ten rows and columns of the carried matrix are zero.

  The entry to be rotated away is real, so the tangent, the cosine and the sine are real. A rotation of a pair that has one of the first ten
  rows in it finds a zero there and is the identity; any other rotation leaves the first ten coordinates alone.
-/
module

public import proofs.«01_k».proof.Proof.RefFrame
public import Idealize.ShloMosaic.Lib.Pointwise

@[expose] public section

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Value
open Idealize.SL Idealize.SL.Sem

/-- The identity matrix. -/
def unit : FVec Ideal S100x100 .f32 := fun i => if (i 0).val = (i 1).val then 1 else 0

theorem unit_apply (a b : Fin 100) : unit (ix2 a b) = if a.val = b.val then 1 else 0 := rfl

/-- Square matrices of real numbers. -/
abbrev Square : Type := Fin 100 → Fin 100 → ℝ

/-- A matrix of real numbers as one of extended reals. -/
def lift (B : Square) : FVec Ideal S100x100 .f32 := fun i => ((B (i 0) (i 1) : ℝ) : EReal)

theorem lift_apply (B : Square) (a b : Fin 100) : lift B (ix2 a b) = ((B a b : ℝ) : EReal) := rfl

theorem ofBits_one : Ideal.ofBits .f32 0x3F800000#32 = 1 := IdealRules.sign_bit.ideal_onePat .f32

theorem ofBits_neg_one : Ideal.ofBits .f32 0xBF800000#32 = ((-1 : ℝ) : EReal) := by
  simp [Ideal.ofBits, Ideal.ieee, -EReal.coe_mul]
  try norm_num

theorem ofBits_two : Ideal.ofBits .f32 0x40000000#32 = ((2 : ℝ) : EReal) := by
  simp [Ideal.ofBits, Ideal.ieee, -EReal.coe_mul]
  try norm_num

theorem select_same {α : Type} (c : BitVec 1) (a : α) : Scalar.select c a a = a := by
  unfold Scalar.select
  split <;> rfl

/-- A choice between two real numbers is real. -/
theorem select_real (c : BitVec 1) (a b : ℝ) : Scalar.select c (a : EReal) (b : EReal) = ((Scalar.select c a b : ℝ) : EReal) := by
  unfold Scalar.select
  split <;> rfl

/-- A quotient of real numbers by one that is not zero is real. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A root of a real number that is not negative is real. -/
theorem sqrt_real (a : ℝ) (ha : 0 ≤ a) : Ideal.sqrt (a : EReal) = ((Real.sqrt a : ℝ) : EReal) := by
  rw [Ideal.sqrt_coe, if_neg (not_lt.2 ha)]

theorem word_eq {a b : ℕ} (ha : a < 100) (hb : b < 100) : IntOp.cmpi .eq (BitVec.ofNat 32 a) (BitVec.ofNat 32 b) = BitVec.ofBool (decide (a = b)) := by
  have h : (BitVec.ofNat 32 a == BitVec.ofNat 32 b) = decide (a = b) := by
    rw [Bool.eq_iff_iff, beq_iff_eq, decide_eq_true_iff]
    constructor
    · intro h
      have := congrArg BitVec.toNat h
      simp only [BitVec.toNat_ofNat] at this
      omega
    · rintro rfl; rfl
  show BitVec.ofBool (BitVec.ofNat 32 a == BitVec.ofNat 32 b) = _
  rw [h]

/-! ## Reading an entry -/

/-- A position brought inside the matrix. -/
def inside (z : Int) : Fin 100 := ⟨(min (max z 0) 99).toNat, by omega⟩

/-- The entry a pair of words points at. -/
theorem slice_at (x : FVec Ideal S100x100 .f32) (start : Fin S100x100.rank → Int) (j : S_.Idx) :
    (shapeCast S_ (Host.dynamicSlice S1x1 x start sliceFits_S100x100_S1x1) shapeCasts_S1x1_S_ : FVec Ideal S_ .f32) j
      = x (ix2 (inside (start 0)) (inside (start 1))) := by
  refine Eq.trans (Host.dynamicSlice_apply x start sliceFits_S100x100_S1x1 _) (congrArg x (funext fun a => Fin.ext ?_))
  match a with
  | ⟨0, _⟩ =>
    simp [Shape.Idx.norm, Host.clampedStart, inside]
    try omega
  | ⟨1, _⟩ =>
    simp [Shape.Idx.norm, Host.clampedStart, inside]
    try omega

theorem slice_real (B : Square) (start : Fin S100x100.rank → Int) :
    ∃ r : ℝ, (shapeCast S_ (Host.dynamicSlice S1x1 (lift B) start sliceFits_S100x100_S1x1) shapeCasts_S1x1_S_ : FVec Ideal S_ .f32) = fun _ => (r : EReal) :=
  ⟨B (inside (start 0)) (inside (start 1)), funext fun j => slice_at (lift B) start j⟩

/-- The entry, where it is known what the two words are. -/
theorem slice_known (B : Square) (start : Fin S100x100.rank → Int) (z w : Int) (hz : start 0 = z) (hw : start 1 = w) :
    (shapeCast S_ (Host.dynamicSlice S1x1 (lift B) start sliceFits_S100x100_S1x1) shapeCasts_S1x1_S_ : FVec Ideal S_ .f32)
      = fun _ => ((B (inside z) (inside w) : ℝ) : EReal) := by
  subst hz hw
  exact funext fun j => slice_at (lift B) start j

/-- A word pointing at a row, counted from the end where it is negative, points at that row. -/
theorem inside_word (i : Fin 100) :
    inside (Scalar.select (IntOp.cmpi .slt (BitVec.ofNat 32 i.val) 0#32) (BitVec.ofNat 32 i.val + 100#32) (BitVec.ofNat 32 i.val)).toInt = i := by
  have hi := i.isLt
  have hs : BitVec.slt (BitVec.ofNat 32 i.val) 0#32 = false := by
    rw [BitVec.slt_eq_decide, decide_eq_false_iff_not, BitVec.toInt_eq_toNat_cond, BitVec.toNat_ofNat,
      Nat.mod_eq_of_lt (by omega), if_pos (by omega), BitVec.toInt_zero]
    omega
  show inside (Scalar.select (BitVec.ofBool (BitVec.slt (BitVec.ofNat 32 i.val) 0#32)) _ (BitVec.ofNat 32 i.val)).toInt = i
  rw [hs]
  show inside (BitVec.ofNat 32 i.val).toInt = i
  refine Fin.ext ?_
  show (min (max (BitVec.ofNat 32 i.val).toInt 0) 99).toNat = i.val
  rw [BitVec.toInt_eq_toNat_cond, BitVec.toNat_ofNat, Nat.mod_eq_of_lt (by omega), if_pos (by omega)]
  omega

/-- The diagonal entries read are real. -/
theorem app_real (B : Square) (X : Valuation τ sig (Elt Ideal)) (hA : X (Proc.devRef .tc main_v50_2) = lift B) :
    ∃ r : ℝ, afterL [while0Ops0_6, while0Ops0_7] X (Proc.devRef .tc main_while0b_v100) = (fun _ => (r : EReal) : FVec Ideal S_ .f32) := by
  simp only [afterL_cons, afterL_nil]
  after_reads_simp
  rw [hA]
  exact slice_real B _

theorem aqq_real (B : Square) (X : Valuation τ sig (Elt Ideal)) (hA : X (Proc.devRef .tc main_v50_2) = lift B) :
    ∃ r : ℝ, afterL [while0Ops0_6, while0Ops0_7] X (Proc.devRef .tc main_while0b_v110) = (fun _ => (r : EReal) : FVec Ideal S_ .f32) := by
  simp only [afterL_cons, afterL_nil]
  after_reads_simp
  rw [hA]
  exact slice_real B _

/-- So is the entry above the diagonal, -/
theorem above_real (B : Square) (p q : BitVec 32) (X : Valuation τ sig (Elt Ideal)) (hA : X (Proc.devRef .tc main_v50_2) = lift B)
    (hp : X (Proc.devRef .tc main_while0b_v89) = (fun _ => p : IVec S_ 32)) (hq : X (Proc.devRef .tc main_while0b_v90) = (fun _ => q : IVec S_ 32)) :
    after while0Ops0_6 X (Proc.devRef .tc main_while0b_v121)
      = (fun _ => ((B (inside (Scalar.select (IntOp.cmpi .slt p 0#32) (p + 100#32) p).toInt)
          (inside (Scalar.select (IntOp.cmpi .slt q 0#32) (q + 100#32) q).toInt) : ℝ) : EReal) : FVec Ideal S_ .f32) := by
  after_reads_simp
  rw [hA]
  refine slice_known B _ _ _ ?_ ?_
  · refine Eq.trans (b := (upto while0Ops0_6 X 41 (Proc.devRef .tc main_while0b_v116) (Shape.Idx.first h_S_)).toInt) rfl ?_
    after_reads_simp
    rw [hp]
    rfl
  · refine Eq.trans (b := (upto while0Ops0_6 X 41 (Proc.devRef .tc main_while0b_v119) (Shape.Idx.first h_S_)).toInt) rfl ?_
    after_reads_simp
    rw [hq]
    rfl

/-- and the entry to be rotated away, which is zero where it lies in one of the first ten rows or columns. -/
theorem apq_real (B : Square) (h0 : ∀ i j : Fin 100, i.val < 10 → B i j = 0 ∧ B j i = 0) (p q : BitVec 32)
    (X : Valuation τ sig (Elt Ideal)) (hA : X (Proc.devRef .tc main_v50_2) = lift B)
    (hp : X (Proc.devRef .tc main_while0b_v89) = (fun _ => p : IVec S_ 32)) (hq : X (Proc.devRef .tc main_while0b_v90) = (fun _ => q : IVec S_ 32)) :
    ∃ r : ℝ, afterL [while0Ops0_6, while0Ops0_7] X (Proc.devRef .tc main_while0b_v122) = (fun _ => (r : EReal) : FVec Ideal S_ .f32)
      ∧ ∀ i : Fin 100, i.val < 10 → (p = BitVec.ofNat 32 i.val ∨ q = BitVec.ofNat 32 i.val) → r = 0 := by
  have h := above_real B p q X hA hp hq
  have hc : after while0Ops0_6 X (Proc.devRef .tc main_while0b_cst_37) = (constant S_ .f32 0x00000000#32 : FVec Ideal S_ .f32) := by
    after_reads_simp
  have hcut : afterL [while0Ops0_6, while0Ops0_7] X = after while0Ops0_7 (after while0Ops0_6 X) := rfl
  rw [hcut]
  generalize after while0Ops0_6 X = Y at h hc
  after_reads_simp
  rw [h, hc]
  refine ⟨Scalar.select (Y (Proc.devRef .tc main_while0b_v111) (Shape.Idx.first h_S_))
    (B (inside (Scalar.select (IntOp.cmpi .slt p 0#32) (p + 100#32) p).toInt) (inside (Scalar.select (IntOp.cmpi .slt q 0#32) (q + 100#32) q).toInt)) 0, ?_, ?_⟩
  · funext j
    obtain rfl : j = Shape.Idx.first h_S_ := Subsingleton.elim (α := S_.Idx) _ _
    rw [← select_real, EReal.coe_zero, ← Ideal.ofBits_zero_f32]
    rfl
  · rintro i hi (rfl | rfl)
    · rw [inside_word, (h0 i _ hi).1, select_same]
    · rw [inside_word, (h0 i _ hi).2, select_same]

/-! ## The angle -/

/-- The tangent of the angle is real, and zero where the entry is. -/
theorem tan_real (r x y : ℝ) (X : Valuation τ sig (Elt Ideal)) (h : X (Proc.devRef .tc main_while0b_v122) = (fun _ => (r : EReal) : FVec Ideal S_ .f32))
    (hx : X (Proc.devRef .tc main_while0b_v100) = (fun _ => (x : EReal) : FVec Ideal S_ .f32))
    (hy : X (Proc.devRef .tc main_while0b_v110) = (fun _ => (y : EReal) : FVec Ideal S_ .f32)) :
    ∃ t : ℝ, afterL [while0Ops0_8, while0Ops0_9, while0Ops0_10, while0Ops0_11] X (Proc.devRef .tc main_while0b_v136)
        = (fun _ => (t : EReal) : FVec Ideal S_ .f32) ∧ (r = 0 → t = 0) := by
  simp only [afterL_cons, afterL_nil]
  after_reads_simp
  rw [h, hx, hy]
  by_cases hr : r = 0
  · subst hr
    refine ⟨0, funext fun j => ?_, fun _ => rfl⟩
    show Scalar.select (Ideal.cmp .oeq ((0 : ℝ) : EReal) (Ideal.ofBits .f32 0x00000000#32)) (Ideal.ofBits .f32 0x00000000#32) _ = ((0 : ℝ) : EReal)
    rw [Ideal.ofBits_zero_f32]
    simp [Ideal.cmp, Scalar.select]
  · have hτ : Ideal.div ((y : EReal) - (x : EReal)) (Ideal.ofBits .f32 0x40000000#32 * (r : EReal)) = (((y - x) / (2 * r) : ℝ) : EReal) := by
      rw [ofBits_two, ← EReal.coe_mul, ← EReal.coe_sub, div_real _ _ (mul_ne_zero two_ne_zero hr)]
    generalize (y - x) / (2 * r) = u at hτ
    have hd : max (u : EReal) (-(u : EReal)) + Ideal.sqrt (Ideal.ofBits .f32 0x3F800000#32 + (u : EReal) * (u : EReal))
        = ((|u| + Real.sqrt (1 + u * u) : ℝ) : EReal) := by
      rw [ofBits_one, ← EReal.coe_one, ← EReal.coe_mul, ← EReal.coe_add, sqrt_real _ (by nlinarith [mul_self_nonneg u]), ← EReal.coe_neg]
      rw [← EReal.coe_strictMono.monotone.map_max, ← EReal.coe_add]
      rfl
    have hn : |u| + Real.sqrt (1 + u * u) ≠ 0 :=
      (add_pos_of_nonneg_of_pos (abs_nonneg u) (Real.sqrt_pos.2 (by nlinarith [mul_self_nonneg u]))).ne'
    have h0 : Ideal.cmp .oeq (r : EReal) (Ideal.ofBits .f32 0x00000000#32) = 0#1 := by
      rw [Ideal.ofBits_zero_f32]
      simp [Ideal.cmp, hr]
    refine ⟨Scalar.select (Ideal.cmp .oge (u : EReal) (Ideal.ofBits .f32 0x00000000#32)) 1 (-1) / (|u| + Real.sqrt (1 + u * u)), funext fun j => ?_,
      fun h => absurd h hr⟩
    refine Eq.trans (b := Scalar.select (Ideal.cmp .oeq (r : EReal) (Ideal.ofBits .f32 0x00000000#32)) (Ideal.ofBits .f32 0x00000000#32)
      (Ideal.div (Scalar.select (Ideal.cmp .oge (Ideal.div ((y : EReal) - (x : EReal)) (Ideal.ofBits .f32 0x40000000#32 * (r : EReal))) (Ideal.ofBits .f32 0x00000000#32))
          (Ideal.ofBits .f32 0x3F800000#32) (Ideal.ofBits .f32 0xBF800000#32))
        (max (Ideal.div ((y : EReal) - (x : EReal)) (Ideal.ofBits .f32 0x40000000#32 * (r : EReal))) (-(Ideal.div ((y : EReal) - (x : EReal)) (Ideal.ofBits .f32 0x40000000#32 * (r : EReal))))
          + Ideal.sqrt (Ideal.ofBits .f32 0x3F800000#32 + Ideal.div ((y : EReal) - (x : EReal)) (Ideal.ofBits .f32 0x40000000#32 * (r : EReal))
              * Ideal.div ((y : EReal) - (x : EReal)) (Ideal.ofBits .f32 0x40000000#32 * (r : EReal)))))) rfl ?_
    rw [hτ, hd, h0, ofBits_neg_one, ofBits_one, ← EReal.coe_one, select_real, div_real _ _ hn]
    rfl

/-! ## The rotation -/

/-- The rotation by the angle with tangent `t`, in the plane of `p` and `q`. -/
def turn (t : ℝ) (p q : BitVec 32) : Square := fun i j =>
  Scalar.select (IntOp.cmpi .eq (BitVec.ofNat 32 i.val) (BitVec.ofNat 32 j.val))
    (Scalar.select (IntOp.ori (IntOp.cmpi .eq (BitVec.ofNat 32 i.val) p) (IntOp.cmpi .eq (BitVec.ofNat 32 i.val) q)) (1 / Real.sqrt (1 + t * t)) 1)
    (Scalar.select (IntOp.andi (IntOp.cmpi .eq (BitVec.ofNat 32 i.val) p) (IntOp.cmpi .eq (BitVec.ofNat 32 j.val) q)) (t * (1 / Real.sqrt (1 + t * t)))
      (Scalar.select (IntOp.andi (IntOp.cmpi .eq (BitVec.ofNat 32 i.val) q) (IntOp.cmpi .eq (BitVec.ofNat 32 j.val) p)) (-(t * (1 / Real.sqrt (1 + t * t)))) 0))

theorem rotation_real (t : ℝ) (p q : BitVec 32) (X : Valuation τ sig (Elt Ideal)) (h : X (Proc.devRef .tc main_while0b_v136) = (fun _ => (t : EReal) : FVec Ideal S_ .f32))
    (hp : X (Proc.devRef .tc main_while0b_v89) = (fun _ => p : IVec S_ 32)) (hq : X (Proc.devRef .tc main_while0b_v90) = (fun _ => q : IVec S_ 32))
    (h0 : X (Proc.devRef .tc main_while0b_v86) = (iotaInDim S100x100 32 0 : IVec S100x100 32))
    (h1 : X (Proc.devRef .tc main_while0b_v87) = (iotaInDim S100x100 32 1 : IVec S100x100 32)) :
    afterL [while0Ops0_12, while0Ops0_13, while0Ops0_14, while0Ops0_15, while0Ops0_16, while0Ops0_17] X (Proc.devRef .tc main_while0b_v168) = lift (turn t p q) := by
  have hc : Ideal.div (Ideal.ofBits .f32 0x3F800000#32) (Ideal.sqrt (Ideal.ofBits .f32 0x3F800000#32 + (t : EReal) * (t : EReal)))
      = ((1 / Real.sqrt (1 + t * t) : ℝ) : EReal) := by
    have hpos : 0 < 1 + t * t := by nlinarith [mul_self_nonneg t]
    rw [ofBits_one, ← EReal.coe_one, ← EReal.coe_mul, ← EReal.coe_add, sqrt_real _ hpos.le, div_real _ _ (Real.sqrt_pos.2 hpos).ne']
  simp only [afterL_cons, afterL_nil]
  after_reads_simp
  rw [h, h0, h1, hp, hq]
  funext i
  show Scalar.select (IntOp.cmpi .eq (BitVec.ofNat 32 (i 0).val) (BitVec.ofNat 32 (i 1).val))
    (Scalar.select (IntOp.ori (IntOp.cmpi .eq (BitVec.ofNat 32 (i 0).val) p) (IntOp.cmpi .eq (BitVec.ofNat 32 (i 0).val) q))
      (Ideal.div (Ideal.ofBits .f32 0x3F800000#32) (Ideal.sqrt (Ideal.ofBits .f32 0x3F800000#32 + (t : EReal) * (t : EReal)))) (Ideal.ofBits .f32 0x3F800000#32))
    (Scalar.select (IntOp.andi (IntOp.cmpi .eq (BitVec.ofNat 32 (i 0).val) p) (IntOp.cmpi .eq (BitVec.ofNat 32 (i 1).val) q))
      ((t : EReal) * Ideal.div (Ideal.ofBits .f32 0x3F800000#32) (Ideal.sqrt (Ideal.ofBits .f32 0x3F800000#32 + (t : EReal) * (t : EReal))))
      (Scalar.select (IntOp.andi (IntOp.cmpi .eq (BitVec.ofNat 32 (i 0).val) q) (IntOp.cmpi .eq (BitVec.ofNat 32 (i 1).val) p))
        (-((t : EReal) * Ideal.div (Ideal.ofBits .f32 0x3F800000#32) (Ideal.sqrt (Ideal.ofBits .f32 0x3F800000#32 + (t : EReal) * (t : EReal)))))
        (Ideal.ofBits .f32 0x00000000#32))) = _
  rw [hc, ofBits_one, Ideal.ofBits_zero_f32, ← EReal.coe_mul, ← EReal.coe_neg, ← EReal.coe_one, ← EReal.coe_zero, select_real, select_real, select_real, select_real]
  rfl

/-- A square whose first ten rows and columns are those of the identity. -/
def Leaves (R : Square) : Prop := ∀ i j : Fin 100, i.val < 10 → R i j = (if i = j then 1 else 0) ∧ R j i = (if j = i then 1 else 0)

theorem word_ne {a : ℕ} {w : BitVec 32} (h : ¬ w = BitVec.ofNat 32 a) : IntOp.cmpi .eq (BitVec.ofNat 32 a) w = 0#1 := by
  have : (BitVec.ofNat 32 a == w) = false := by
    rw [beq_eq_false_iff_ne]
    exact fun e => h e.symm
  show BitVec.ofBool (BitVec.ofNat 32 a == w) = _
  rw [this]
  rfl

/-- The rotation leaves the first ten coordinates alone. -/
theorem turn_leaves (r t : ℝ) (p q : BitVec 32) (ht : r = 0 → t = 0)
    (hr : ∀ i : Fin 100, i.val < 10 → (p = BitVec.ofNat 32 i.val ∨ q = BitVec.ofNat 32 i.val) → r = 0) : Leaves (turn t p q) := by
  have hz : ∀ i j : Fin 100, turn 0 p q i j = if i = j then 1 else 0 := by
    intro i j
    unfold turn
    rw [word_eq i.isLt j.isLt]
    have hs : (1 / Real.sqrt (1 + 0 * 0) : ℝ) = 1 := by simp
    rw [hs, zero_mul, neg_zero, select_same, select_same, select_same]
    by_cases he : i = j
    · subst he; simp [Scalar.select]
    · have : ¬ i.val = j.val := fun e => he (Fin.ext e)
      simp [Scalar.select, he, this]
  intro i j hi
  by_cases hpq : p = BitVec.ofNat 32 i.val ∨ q = BitVec.ofNat 32 i.val
  · rw [ht (hr i hi hpq), hz, hz]
    exact ⟨rfl, rfl⟩
  · have hp : ¬ p = BitVec.ofNat 32 i.val := fun e => hpq (Or.inl e)
    have hq : ¬ q = BitVec.ofNat 32 i.val := fun e => hpq (Or.inr e)
    constructor
    · unfold turn
      rw [word_eq i.isLt j.isLt, word_ne hp, word_ne hq]
      by_cases he : i = j
      · subst he; simp [Scalar.select, IntOp.ori]
      · have : ¬ i.val = j.val := fun e => he (Fin.ext e)
        simp [Scalar.select, IntOp.andi, he, this]
    · unfold turn
      rw [word_eq j.isLt i.isLt, word_ne hp, word_ne hq]
      by_cases he : j = i
      · subst he; rw [word_ne hp, word_ne hq]; simp [Scalar.select, IntOp.ori]
      · have : ¬ j.val = i.val := fun e => he (Fin.ext e)
        simp [Scalar.select, IntOp.andi, he, this]

end Cert.ReferenceIdeal.Hand

end
-- ==== Proof.RefTrip.lean ====
/-
  One trip of the reference's loop.

  What a trip keeps: the carried matrix is real, no vector makes its quadratic form negative, and its first ten rows and columns are zero;
  the first ten columns of the accumulated rotations are those of the identity.
-/
module

public import proofs.«01_k».proof.Proof.RefRotation

@[expose] public section

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Value
open Idealize.SL Idealize.SL.Sem

/-! ## Products of real matrices -/

/-- The product of two squares. -/
def times (B R : Square) : Square := fun i j => ∑ k, B i k * R k j

/-- The square with rows and columns exchanged. -/
def flip (R : Square) : Square := fun i j => R j i

theorem lift_sum {ι : Type} (s : Finset ι) (f : ι → ℝ) : ∑ k ∈ s, ((f k : ℝ) : EReal) = ((∑ k ∈ s, f k : ℝ) : EReal) :=
  (map_sum (⟨⟨fun x : ℝ => (x : EReal), EReal.coe_zero⟩, EReal.coe_add⟩ : ℝ →+ EReal) f s).symm

theorem lift_times (B R : Square) : Host.dotGeneral dot_S100x100_S100x100_S100x100_1_0_0_1_n_n none (lift B) (lift R) = lift (times B R) := by
  funext i
  obtain ⟨a, b, rfl⟩ : ∃ a b, i = ix2 a b := ⟨i 0, i 1, (ix2_eta i).symm⟩
  pointwise [dot_S100x100_S100x100_S100x100_1_0_0_1_n_n]
  rw [lift_apply, times, ← lift_sum]
  refine Finset.sum_congr rfl fun k _ => ?_
  rw [EReal.coe_mul]
  rfl

theorem lift_flip (R : Square) : transpose S100x100 [1, 0] (lift R) transposes_S100x100_S100x100_1_0 = lift (flip R) := by
  funext i
  obtain ⟨a, b, rfl⟩ : ∃ a b, i = ix2 a b := ⟨i 0, i 1, (ix2_eta i).symm⟩
  pointwise []
  rfl

/-! ## What a trip keeps -/

/-- The first ten rows and columns are zero and the quadratic form is nowhere negative. -/
def Good (B : Square) : Prop :=
  (∀ v : Fin 100 → ℝ, 0 ≤ ∑ i, v i * ∑ j, B i j * v j) ∧ ∀ i j : Fin 100, i.val < 10 → B i j = 0 ∧ B j i = 0

/-- The first ten columns are those of the identity. -/
def Keeps (V : FVec Ideal S100x100 .f32) : Prop := ∀ a b : Fin 100, b.val < 10 → V (ix2 a b) = if a.val = b.val then 1 else 0

/-- No diagonal entry is negative. -/
theorem diag_nonneg (B : Square) (h : Good B) (i : Fin 100) : 0 ≤ B i i := by
  have h1 := h.1 fun k => if k = i then 1 else 0
  simpa using h1

/-- A rotation that leaves the first ten coordinates alone keeps all that. -/
theorem good_turn (B R : Square) (hB : Good B) (hR : Leaves R) : Good (times (flip R) (times B R)) := by
  refine ⟨fun v => ?_, fun i j hi => ⟨?_, ?_⟩⟩
  · have h := hB.1 fun k => ∑ j, R k j * v j
    refine h.trans_eq ?_
    unfold times flip
    simp only [Finset.mul_sum, Finset.sum_mul]
    rw [Finset.sum_comm]
    calc (∑ l, ∑ k, ∑ n, ∑ j, R k j * v j * (B k l * (R l n * v n)))
        = ∑ l, ∑ k, ∑ n, ∑ j, v j * (R k j * (B k l * R l n) * v n) := by
          refine Finset.sum_congr rfl fun l _ => Finset.sum_congr rfl fun k _ => Finset.sum_congr rfl fun n _ => Finset.sum_congr rfl fun j _ => ?_
          ring
      _ = ∑ j, ∑ n, ∑ k, ∑ l, v j * (R k j * (B k l * R l n) * v n) := by
          rw [Finset.sum_comm' (t' := Finset.univ) (s' := fun _ => Finset.univ) (by simp)]
          refine Eq.trans (Finset.sum_congr rfl fun k _ => Finset.sum_congr rfl fun l _ => Finset.sum_comm) ?_
          refine Eq.trans (Finset.sum_congr rfl fun k _ => Finset.sum_comm) ?_
          rw [Finset.sum_comm]
          refine Finset.sum_congr rfl fun j _ => ?_
          refine Eq.trans (Finset.sum_congr rfl fun k _ => Finset.sum_comm) ?_
          exact Finset.sum_comm
  · unfold times flip
    refine Finset.sum_eq_zero fun k _ => ?_
    rw [(hR i k hi).2]
    by_cases hk : k = i
    · subst hk
      rw [Finset.sum_eq_zero fun l _ => by rw [(hB.2 k l hi).1, zero_mul], mul_zero]
    · rw [if_neg hk, zero_mul]
  · unfold times flip
    refine Finset.sum_eq_zero fun k _ => ?_
    rw [Finset.sum_eq_zero fun l _ => ?_, mul_zero]
    rw [(hR i l hi).2]
    by_cases hl : l = i
    · subst hl
      rw [(hB.2 l k hi).2, zero_mul]
    · rw [if_neg hl, mul_zero]

theorem keeps_turn (V : FVec Ideal S100x100 .f32) (R : Square) (hV : Keeps V) (hR : Leaves R) :
    Keeps (Host.dotGeneral dot_S100x100_S100x100_S100x100_1_0_0_1_n_n none V (lift R)) := by
  intro a b hb
  refine Eq.trans (b := ∑ k, V (ix2 a k) * lift R (ix2 k b)) ?_ ?_
  · pointwise [dot_S100x100_S100x100_S100x100_1_0_0_1_n_n]
  · rw [Finset.sum_eq_single b]
    · rw [lift_apply, (hR b b hb).1, if_pos rfl, EReal.coe_one, mul_one]
      exact hV a b hb
    · intro k _ hk
      rw [lift_apply, (hR b k hb).2, if_neg hk, EReal.coe_zero, mul_zero]
    · intro h; exact absurd (Finset.mem_univ b) h

/-! ## The trip -/

/-- The operations of a trip before the two products. -/
abbrev frontI : List (List (HloOp τ sig (Elt Ideal))) :=
  [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17]

/-- The rotation of a trip is real and leaves the first ten coordinates alone. -/
theorem rotated (B : Square) (hB : Good B) (X : Valuation τ sig (Elt Ideal)) (hA : X (Proc.devRef .tc main_v50_2) = lift B) :
    ∃ R : Square, afterL frontI X (Proc.devRef .tc main_while0b_v168) = lift R ∧ Leaves R := by
  have hcut : afterL frontI X = afterL [while0Ops0_12, while0Ops0_13, while0Ops0_14, while0Ops0_15, while0Ops0_16, while0Ops0_17]
      (afterL [while0Ops0_8, while0Ops0_9, while0Ops0_10, while0Ops0_11] (afterL [while0Ops0_6, while0Ops0_7]
        (afterL [while0Ops0, while0Ops0_1, while0Ops0_2, while0Ops0_3, while0Ops0_4, while0Ops0_5] X))) := rfl
  rw [hcut]
  have hA' : afterL [while0Ops0, while0Ops0_1, while0Ops0_2, while0Ops0_3, while0Ops0_4, while0Ops0_5] X (Proc.devRef .tc main_v50_2) = lift B := by
    refine Eq.trans ?_ hA
    simp only [afterL_cons, afterL_nil]
    after_reads_simp
  have h86 : afterL [while0Ops0, while0Ops0_1, while0Ops0_2, while0Ops0_3, while0Ops0_4, while0Ops0_5] X (Proc.devRef .tc main_while0b_v86)
      = (iotaInDim S100x100 32 0 : IVec S100x100 32) := by
    simp only [afterL_cons, afterL_nil]
    after_reads_simp
  have h87 : afterL [while0Ops0, while0Ops0_1, while0Ops0_2, while0Ops0_3, while0Ops0_4, while0Ops0_5] X (Proc.devRef .tc main_while0b_v87)
      = (iotaInDim S100x100 32 1 : IVec S100x100 32) := by
    simp only [afterL_cons, afterL_nil]
    after_reads_simp
  generalize afterL [while0Ops0, while0Ops0_1, while0Ops0_2, while0Ops0_3, while0Ops0_4, while0Ops0_5] X = Y at hA' h86 h87
  obtain ⟨p, hp⟩ : ∃ p : BitVec 32, Y (Proc.devRef .tc main_while0b_v89) = (fun _ => p : IVec S_ 32) :=
    ⟨Y (Proc.devRef .tc main_while0b_v89) (Shape.Idx.first h_S_), funext fun j => congrArg (Y (Proc.devRef .tc main_while0b_v89)) (Subsingleton.elim (α := S_.Idx) _ _)⟩
  obtain ⟨q, hq⟩ : ∃ q : BitVec 32, Y (Proc.devRef .tc main_while0b_v90) = (fun _ => q : IVec S_ 32) :=
    ⟨Y (Proc.devRef .tc main_while0b_v90) (Shape.Idx.first h_S_), funext fun j => congrArg (Y (Proc.devRef .tc main_while0b_v90)) (Subsingleton.elim (α := S_.Idx) _ _)⟩
  obtain ⟨x, hx⟩ := app_real B Y hA'
  obtain ⟨y, hy⟩ := aqq_real B Y hA'
  obtain ⟨r, hr, hr0⟩ := apq_real B hB.2 p q Y hA' hp hq
  obtain ⟨t, ht, ht0⟩ := tan_real r x y _ hr hx hy
  refine ⟨turn t p q, rotation_real t p q _ ht ?_ ?_ ?_ ?_, turn_leaves r t p q ht0 hr0⟩
  · refine Eq.trans ?_ hp
    simp only [afterL_cons, afterL_nil]
    after_reads_simp
  · refine Eq.trans ?_ hq
    simp only [afterL_cons, afterL_nil]
    after_reads_simp
  · refine Eq.trans ?_ h86
    simp only [afterL_cons, afterL_nil]
    after_reads_simp
  · refine Eq.trans ?_ h87
    simp only [afterL_cons, afterL_nil]
    after_reads_simp

/-- A trip keeps what was said. -/
theorem trip_keeps (X : Valuation τ sig (Elt Ideal)) (h : (∃ B, X (Proc.devRef .tc main_v50_2) = lift B ∧ Good B) ∧ Keeps (X (Proc.devRef .tc main_v50_3))) :
    (∃ B, afterL bodyI (after condOps X) (Proc.devRef .tc main_v50_2) = lift B ∧ Good B)
      ∧ Keeps (afterL bodyI (after condOps X) (Proc.devRef .tc main_v50_3)) := by
  obtain ⟨⟨B, hA, hB⟩, hV⟩ := h
  have hA' : after condOps X (Proc.devRef .tc main_v50_2) = lift B := by
    refine Eq.trans ?_ hA
    after_reads_simp
  have hV' : after condOps X (Proc.devRef .tc main_v50_3) = X (Proc.devRef .tc main_v50_3) := by
    after_reads_simp
  rw [← hV'] at hV
  generalize after condOps X = Y at hA' hV
  obtain ⟨R, hJ, hR⟩ := rotated B hB Y hA'
  have hA2 : afterL frontI Y (Proc.devRef .tc main_v50_2) = lift B := by
    refine Eq.trans ?_ hA'
    simp only [frontI, afterL_cons, afterL_nil]
    after_reads_simp
  have hV2 : afterL frontI Y (Proc.devRef .tc main_v50_3) = Y (Proc.devRef .tc main_v50_3) := by
    simp only [frontI, afterL_cons, afterL_nil]
    after_reads_simp
  rw [← hV2] at hV
  have hcut : afterL bodyI Y = after while0Ops0_18 (afterL frontI Y) := rfl
  rw [hcut]
  generalize afterL frontI Y = Z at hJ hA2 hV
  constructor
  · refine ⟨times (flip R) (times B R), ?_, good_turn B R hB hR⟩
    after_reads_simp
    rw [hJ, hA2]
    refine Eq.trans (b := Host.dotGeneral (φ₁ := .f32) (φ₂ := .f32) dot_S100x100_S100x100_S100x100_1_0_0_1_n_n none (transpose S100x100 [1, 0] (lift R) transposes_S100x100_S100x100_1_0)
      (Host.dotGeneral (φ₁ := .f32) (φ₂ := .f32) dot_S100x100_S100x100_S100x100_1_0_0_1_n_n none (lift B) (lift R))) rfl ?_
    rw [lift_times, lift_flip, lift_times]
  · after_reads_simp
    rw [hJ]
    exact keeps_turn _ R hV hR

end Cert.ReferenceIdeal.Hand

end
-- ==== Proof.RefTail.lean ====
/-
  What the reference does after its loop.

  The eigenvalues are the diagonal: none is negative and the first ten are zero, so a stable sort keeps those ten in their places, the first
  ten sorted eigenvectors are the first ten columns of the identity, and these go through the network.
-/
module

public import proofs.«01_k».proof.Proof.RefTrip
public import Idealize.ShloMosaic.Lib.Tactic.CleanTypes

@[expose] public section

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Value
open Idealize.SL Idealize.SL.Sem

/-! ## Sorting keys of which the first ten are least -/

/-- Elements at the front that nothing goes before stay at the front, in order. -/
theorem stableSort_front {ι : Type} (before : ι → ι → Bool) (l₂ : List ι) :
    ∀ l₁ : List ι, (∀ a ∈ l₁, ∀ b, before b a = false) → stableSort before (l₁ ++ l₂) = l₁ ++ stableSort before l₂
  | [], _ => rfl
  | a :: l, h => by
    have ih := stableSort_front before l₂ l fun b hb => h b (List.mem_cons_of_mem _ hb)
    show insertBefore before a (stableSort before (l ++ l₂)) = a :: (l ++ stableSort before l₂)
    rw [ih]
    generalize l ++ stableSort before l₂ = rest
    cases rest with
    | nil => rfl
    | cons b rest =>
      unfold insertBefore
      rw [h a List.mem_cons_self b]
      rfl

/-- Where no position goes before any of the first ten, each of those keeps its place. -/
theorem sortedFrom_front (before : Fin 100 → Fin 100 → Bool) (h : ∀ a : Fin 100, a.val < 10 → ∀ b, before b a = false) (k : Fin 100) (hk : k.val < 10) :
    sortedFrom before k = k := by
  have hl : sortPositions 100 before = (List.finRange 100).take 10 ++ stableSort before ((List.finRange 100).drop 10) := by
    unfold sortPositions
    conv_lhs => rw [← List.take_append_drop 10 (List.finRange 100)]
    refine stableSort_front before _ _ fun a ha => h a ?_
    obtain ⟨i, hi, rfl⟩ := List.mem_iff_getElem.1 ha
    rw [List.getElem_take, List.getElem_finRange]
    rw [List.length_take] at hi
    exact lt_of_lt_of_le hi (min_le_left _ _)
  have hlen : k.val < ((List.finRange 100).take 10).length := by
    rw [List.length_take, List.length_finRange]
    exact hk
  unfold sortedFrom
  rw [List.get_eq_getElem]
  simp only [Fin.val_cast, hl]
  rw [List.getElem_append_left hlen, List.getElem_take, List.getElem_finRange]
  rfl

/-- No key that is not negative goes before the key zero. -/
theorem comparator_zero (r : ℝ) (hr : 0 ≤ r) (a b : BitVec 32) : comparator_f32_i32_d0 (F := Ideal) ((r : EReal), a) ((0 : EReal), b) = 0#1 := by
  unfold comparator_f32_i32_d0
  by_cases h0 : r = 0
  · subst h0
    simp [FloatOps.cmpf, FloatOps.cmpfTotal, FloatOps.ofBits, Ideal.cmp, Ideal.cmpTotal, CmpDirection.ordered, Scalar.select]
    try rfl
  · simp [FloatOps.cmpf, FloatOps.cmpfTotal, FloatOps.ofBits, Ideal.cmp, Ideal.cmpTotal, CmpDirection.ordered, Scalar.select, h0, not_lt.2 hr]
    try rfl

/-- Sorting real keys, none negative and the first ten zero, leaves the first ten positions in order. -/
theorem sort_front (e : Fin 100 → ℝ) (h0 : ∀ i : Fin 100, i.val < 10 → e i = 0) (hn : ∀ i, 0 ≤ e i) (b : Fin 100) (hb : b.val < 10) :
    (Host.sort2 S100 0 (comparator_f32_i32_d0 (F := Ideal)) (fun i => ((e (i 0) : ℝ) : EReal)) (iotaInDim S100 32 0)).2 (ix1 b) = BitVec.ofNat 32 b.val := by
  unfold Host.sort2
  rw [dif_pos (by decide)]
  have hs : sortedFrom (fun k k' : Fin 100 => comparator_f32_i32_d0 (F := Ideal)
      (((e ((Shape.Idx.along (s := S100) (ix1 b) 0 k) 0) : ℝ) : EReal), iotaInDim S100 32 0 (Shape.Idx.along (s := S100) (ix1 b) 0 k))
      (((e ((Shape.Idx.along (s := S100) (ix1 b) 0 k') 0) : ℝ) : EReal), iotaInDim S100 32 0 (Shape.Idx.along (s := S100) (ix1 b) 0 k')) == 1#1) b = b := by
    refine sortedFrom_front _ (fun a ha k => ?_) b hb
    have ha' : (Shape.Idx.along (s := S100) (ix1 b) 0 a) 0 = a := Function.update_self _ _ _
    rw [ha', h0 a ha, EReal.coe_zero]
    exact (congrArg (· == 1#1) (comparator_zero _ (hn _) _ _)).trans rfl
  refine Eq.trans (congrArg (fun k => iotaInDim S100 32 0 (Shape.Idx.along (s := S100) (ix1 b) 0 k)) hs) ?_
  have hb' : (Shape.Idx.along (s := S100) (ix1 b) 0 b) 0 = b := Function.update_self _ _ _
  show BitVec.ofNat 32 ((Shape.Idx.along (s := S100) (ix1 b) 0 b) 0).val = _
  rw [hb']

/-! ## Taking columns -/

theorem gather_cols (x : S100x100.Idx → EReal) (idx : IVec S100x1 32) (r j : Fin 100) :
    Host.gather gather_S100x100_S100x1_S100x100_0_1_n_n_1_1_1001 x idx (ix2 r j)
      = x (ix2 r ⟨min (idx (ix2 j 0)).toInt.toNat 99, by omega⟩) := by
  unfold Host.gather
  congr 1
  funext a
  refine Fin.ext ?_
  show gather_S100x100_S100x1_S100x100_0_1_n_n_1_1_1001.start (ix2 r j) idx a + gather_S100x100_S100x1_S100x100_0_1_n_n_1_1_1001.batchCoord (ix2 r j) a
      + gather_S100x100_S100x1_S100x100_0_1_n_n_1_1_1001.offCoord (ix2 r j) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · have hs : gather_S100x100_S100x1_S100x100_0_1_n_n_1_1_1001.start (ix2 r j) idx 0 = 0 := by
      unfold GatherDims.start
      rw [dif_neg (by decide)]
    rw [hs, Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ gather_S100x100_S100x1_S100x100_0_1_n_n_1_1_1001.startIndexMap from List.mem_singleton.mpr rfl)]
    have hsi : gather_S100x100_S100x1_S100x100_0_1_n_n_1_1_1001.siIdx (ix2 r j) ⟨List.idxOf (1 : Fin 2) gather_S100x100_S100x1_S100x100_0_1_n_n_1_1_1001.startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-! ## The operations after the loop -/

/-- The eigenvalues are the diagonal. -/
theorem evals_diag (B : Square) (X : Valuation τ sig (Elt Ideal)) (hA : X (Proc.devRef .tc main_v50_2) = lift B) :
    afterL [hostOps0_1, hostOps0_2, hostOps0_3] X (Proc.devRef .tc main_v57) = (fun i => ((B (i 0) (i 0) : ℝ) : EReal) : FVec Ideal S100 .f32) := by
  simp only [afterL_cons, afterL_nil]
  after_reads_simp
  rw [hA]
  refine Eq.trans (b := Host.reduceAdd (F := Ideal) (φ := .f32) (select (fun i => IntOp.cmpi .eq (BitVec.ofNat 32 (i 0).val + 0#32) (BitVec.ofNat 32 (i 1).val)) (lift B)
    (fun _ => Ideal.ofBits .f32 0x00000000#32)) (constant S_ .f32 0x00000000#32) reducesTo_S100x100_S100_d1 h_S_) rfl ?_
  funext i
  obtain ⟨a, rfl⟩ : ∃ a, i = ix1 a := ⟨i 0, (ix1_eta i).symm⟩
  pointwise []
  refine Eq.trans (b := ∑ k : Fin 100, if k = a then ((B a k : ℝ) : EReal) else 0) (Finset.sum_congr rfl fun k _ => ?_) ?_
  · show Scalar.select (IntOp.cmpi .eq (BitVec.ofNat 32 a.val + 0#32) (BitVec.ofNat 32 k.val)) ((B a k : ℝ) : EReal) _ = _
    rw [BitVec.add_zero, word_eq a.isLt k.isLt]
    by_cases h : k = a
    · subst h; simp [Scalar.select]
    · have : ¬ a.val = k.val := fun e => h (Fin.ext e.symm)
      simp [Scalar.select, h, this]
  · rw [Finset.sum_ite_eq' Finset.univ a, if_pos (Finset.mem_univ a)]

/-- The first ten of their order are the order they stand in. -/
theorem order_front (B : Square) (hB : Good B) (X : Valuation τ sig (Elt Ideal))
    (h : X (Proc.devRef .tc main_v57) = (fun i => ((B (i 0) (i 0) : ℝ) : EReal) : FVec Ideal S100 .f32)) (b : Fin 100) (hb : b.val < 10) :
    afterL [hostOps0_4] X (Proc.devRef .tc main_v58) (ix1 b) = BitVec.ofNat 32 b.val := by
  simp only [afterL_cons, afterL_nil]
  after_reads_simp
  rw [h]
  exact sort_front (fun i => B i i) (fun i hi => (hB.2 i i hi).1) (diag_nonneg B hB) b hb

/-- The first ten sorted eigenvectors are those of the identity, -/
theorem evecs_front (X : Valuation τ sig (Elt Ideal)) (h : ∀ b : Fin 100, b.val < 10 → X (Proc.devRef .tc main_v58) (ix1 b) = BitVec.ofNat 32 b.val)
    (hV : Keeps (X (Proc.devRef .tc main_v50_3))) :
    Keeps (after hostOps0_5 X (Proc.devRef .tc main_v72)) := by
  after_reads_simp
  generalize X (Proc.devRef .tc main_v58) = w at h
  generalize X (Proc.devRef .tc main_v50_3) = V at hV
  intro a b hb
  refine Eq.trans (gather_cols _ _ a b) (Eq.trans ?_ (hV a b hb))
  have hw : broadcastInDim S100x1 ![0] bcast_S100_S100x1_0
      (select (cmpi .slt w (broadcastInDim S100 ![] bcast_S_S100 (constantI S_ 32 0#32)))
        (addi w (broadcastInDim S100 ![] bcast_S_S100 (constantI S_ 32 100#32))) w) (ix2 b 0)
      = BitVec.ofNat 32 b.val := by
    have e : w (ix1 b) = BitVec.ofNat 32 b.val := h b hb
    pointwise []
    rw [e]
    have hs : BitVec.slt (BitVec.ofNat 32 b.val) 0#32 = false := by
      rw [BitVec.slt_eq_decide, decide_eq_false_iff_not, BitVec.toInt_eq_toNat_cond, BitVec.toNat_ofNat,
        Nat.mod_eq_of_lt (by omega), if_pos (by omega), BitVec.toInt_zero]
      omega
    show Scalar.select (BitVec.ofBool (BitVec.slt (BitVec.ofNat 32 b.val) 0#32)) _ (BitVec.ofNat 32 b.val) = _
    rw [hs]; rfl
  have hn : min (BitVec.ofNat 32 b.val).toInt.toNat 99 = b.val := by
    rw [BitVec.toInt_eq_toNat_cond, BitVec.toNat_ofNat, Nat.mod_eq_of_lt (by omega), if_pos (by omega)]
    omega
  congr 2
  refine Fin.ext ?_
  show min (BitVec.toInt _).toNat 99 = b.val
  rw [hw, hn]

/-- Row `n` of the first ten columns of the identity. -/
def firstTen (n : Fin 100) (d : Fin 10) : EReal := if n.val = d.val then 1 else 0

/-- The network on row `n` of the first ten columns of the identity: component `o`. -/
def network (W1 : FVec Ideal S512x10 .f32) (b1 : FVec Ideal S512 .f32) (W2 : FVec Ideal S10x512 .f32) (b2 : FVec Ideal S10 .f32)
    (n : Fin 100) (o : Fin 10) : EReal :=
  (∑ h : Fin 512, max ((∑ d : Fin 10, firstTen n d * W1 (ix2 h d)) + b1 (ix1 h)) 0 * W2 (ix2 o h)) + b2 (ix1 o)

/-- The first layer on the first ten columns of the identity. -/
def layer (W1 : FVec Ideal S512x10 .f32) (b1 : FVec Ideal S512 .f32) : FVec Ideal S100x512 .f32 :=
  addf (Host.dotGeneral (φ₁ := .f32) (φ₂ := .f32) dot_S100x10_S10x512_S100x512_1_0_0_1_n_n none (fun i => firstTen (i 0) (i 1) : FVec Ideal S100x10 .f32)
      (transpose S10x512 [1, 0] W1 transposes_S512x10_S10x512_1_0))
    (broadcastInDim S100x512 ![0, 1] bcast_S1x512_S100x512_0_1 (broadcastInDim S1x512 ![1] bcast_S512_S1x512_1 b1))

/-- so what is taken of them is the first ten columns of the identity. -/
theorem cols_front (V : FVec Ideal S100x100 .f32) (hV : Keeps V) :
    extractStridedSlice S100x10 ![0, 0] V slices_S100x100_S100x10_0_0 = fun i => firstTen (i 0) (i 1) := by
  funext i
  obtain ⟨a, b, rfl⟩ : ∃ a b, i = ix2 a b := ⟨i 0, i 1, (ix2_eta i).symm⟩
  have hb := b.isLt
  refine Eq.trans (b := V (ix2 a ⟨b.val, by omega⟩)) ?_ (hV a ⟨b.val, by omega⟩ hb)
  pointwise []

/-- The first layer before its activation, -/
theorem layer_one (X : Valuation τ sig (Elt Ideal)) (h : ∀ b : Fin 100, b.val < 10 → X (Proc.devRef .tc main_v58) (ix1 b) = BitVec.ofNat 32 b.val)
    (hV : Keeps (X (Proc.devRef .tc main_v50_3))) :
    after hostOps0_5 X (Proc.devRef .tc main_v78)
      = layer (X (Proc.devRef .tc main_arg1)) (X (Proc.devRef .tc main_arg2)) := by
  have hu := cols_front _ (evecs_front X h hV)
  revert hu
  after_reads_simp
  intro hu
  rw [hu]
  rfl

/-- and the result. -/
theorem layer_two (X : Valuation τ sig (Elt Ideal))
    (h : X (Proc.devRef .tc main_v78)
      = layer (X (Proc.devRef .tc main_arg1)) (X (Proc.devRef .tc main_arg2))) :
    afterL [hostOps0_6, hostOps0_7] X (Proc.devRef .tc main_v84)
      = fun i => network (X (Proc.devRef .tc main_arg1)) (X (Proc.devRef .tc main_arg2)) (X (Proc.devRef .tc main_arg3)) (X (Proc.devRef .tc main_arg4)) (i 0) (i 1) := by
  simp only [afterL_cons, afterL_nil]
  after_reads_simp
  rw [h]
  generalize X (Proc.devRef .tc main_arg1) = W1
  generalize X (Proc.devRef .tc main_arg2) = b1
  generalize X (Proc.devRef .tc main_arg3) = W2
  generalize X (Proc.devRef .tc main_arg4) = b2
  funext i
  obtain ⟨a, b, rfl⟩ : ∃ a b, i = ix2 a b := ⟨i 0, i 1, (ix2_eta i).symm⟩
  simp only [TRef.toBuf, TRef.ofBuf, cast_cast, cast_eq]
  clean_types
  pointwise [layer, network, dot_S100x10_S10x512_S100x512_1_0_0_1_n_n, dot_S100x512_S512x10_S100x10_1_0_0_1_n_n]

/-- What the operations after the loop leave in the result. -/
theorem tail_eq (X : Valuation τ sig (Elt Ideal)) (h : (∃ B, X (Proc.devRef .tc main_v50_2) = lift B ∧ Good B) ∧ Keeps (X (Proc.devRef .tc main_v50_3))) :
    afterL postI (after condOps X) (Proc.devRef .tc main_v84)
      = fun i => network (X (Proc.devRef .tc main_arg1)) (X (Proc.devRef .tc main_arg2)) (X (Proc.devRef .tc main_arg3)) (X (Proc.devRef .tc main_arg4)) (i 0) (i 1) := by
  obtain ⟨⟨B, hA, hB⟩, hV⟩ := h
  have hcut : afterL postI (after condOps X) = afterL [hostOps0_6, hostOps0_7] (after hostOps0_5 (afterL [hostOps0_4]
      (afterL [hostOps0_1, hostOps0_2, hostOps0_3] (after condOps X)))) := rfl
  rw [hcut]
  have hE := evals_diag B (after condOps X) (by refine Eq.trans ?_ hA; after_reads_simp)
  have hO := order_front B hB _ hE
  have hV' : Keeps (afterL [hostOps0_4] (afterL [hostOps0_1, hostOps0_2, hostOps0_3] (after condOps X)) (Proc.devRef .tc main_v50_3)) := by
    have e : afterL [hostOps0_4] (afterL [hostOps0_1, hostOps0_2, hostOps0_3] (after condOps X)) (Proc.devRef .tc main_v50_3) = X (Proc.devRef .tc main_v50_3) := by
      simp only [afterL_cons, afterL_nil]
      after_reads_simp
    rw [e]
    exact hV
  have hL := layer_one _ hO hV'
  have h1 : after hostOps0_5 (afterL [hostOps0_4] (afterL [hostOps0_1, hostOps0_2, hostOps0_3] (after condOps X))) (Proc.devRef .tc main_arg1)
      = X (Proc.devRef .tc main_arg1) := by
    simp only [afterL_cons, afterL_nil]
    after_reads_simp
  have h2 : after hostOps0_5 (afterL [hostOps0_4] (afterL [hostOps0_1, hostOps0_2, hostOps0_3] (after condOps X))) (Proc.devRef .tc main_arg2)
      = X (Proc.devRef .tc main_arg2) := by
    simp only [afterL_cons, afterL_nil]
    after_reads_simp
  have h3 : after hostOps0_5 (afterL [hostOps0_4] (afterL [hostOps0_1, hostOps0_2, hostOps0_3] (after condOps X))) (Proc.devRef .tc main_arg3)
      = X (Proc.devRef .tc main_arg3) := by
    simp only [afterL_cons, afterL_nil]
    after_reads_simp
  have h4 : after hostOps0_5 (afterL [hostOps0_4] (afterL [hostOps0_1, hostOps0_2, hostOps0_3] (after condOps X))) (Proc.devRef .tc main_arg4)
      = X (Proc.devRef .tc main_arg4) := by
    simp only [afterL_cons, afterL_nil]
    after_reads_simp
  have k1 : afterL [hostOps0_4] (afterL [hostOps0_1, hostOps0_2, hostOps0_3] (after condOps X)) (Proc.devRef .tc main_arg1)
      = X (Proc.devRef .tc main_arg1) := by
    simp only [afterL_cons, afterL_nil]
    after_reads_simp
  have k2 : afterL [hostOps0_4] (afterL [hostOps0_1, hostOps0_2, hostOps0_3] (after condOps X)) (Proc.devRef .tc main_arg2)
      = X (Proc.devRef .tc main_arg2) := by
    simp only [afterL_cons, afterL_nil]
    after_reads_simp
  rw [k1, k2] at hL
  rw [layer_two _ (by rw [hL, h1, h2]), h1, h2, h3, h4]

end Cert.ReferenceIdeal.Hand

end
-- ==== Proof.RefEntry.lean ====
/-
  What the reference's loop starts from, when the first ten rows are far from all others.

  The affinities are real whatever the rows are, not negative, symmetric and one on the diagonal, so the scaled Laplacian is real and its
  quadratic form is nowhere negative. Where a row is farther than the radius from every other, its affinities are those of the identity, its
  degree is one, and the row and the column of the Laplacian are zero.
-/
module

public import proofs.«01_k».proof.Proof.RefTrip
public import proofs.«01_k».proof.Proof.KernelKey
public import proofs.«01_k».proof.Proof.Gen.Pre_first_rows_far_apart
public import Idealize.ShloMosaic.Lib.ReduceAll
public import Idealize.ShloMosaic.Lib.Tactic.CleanTypes

@[expose] public section

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Value
open Idealize.SL Idealize.SL.Sem

/-! ## The functions computed before the loop -/

/-- The squared distances of the rows. -/
def distSq (x : FVec Ideal S100x256 .f32) : FVec Ideal S100x100 .f32 :=
  maximumf (subf
    (addf
      (broadcastInDim S100x100 ![0, 1] bcast_S100x1_S100x100_0_1 (broadcastInDim S100x1 ![0] bcast_S100_S100x1_0
        (Host.reduceAdd (mulf x x) (constant S_ .f32 0x00000000#32) reducesTo_S100x256_S100_d1 h_S_)))
      (broadcastInDim S100x100 ![0, 1] bcast_S1x100_S100x100_0_1 (broadcastInDim S1x100 ![1] bcast_S100_S1x100_1
        (Host.reduceAdd (mulf x x) (constant S_ .f32 0x00000000#32) reducesTo_S100x256_S100_d1 h_S_))))
    (mulf (broadcastInDim S100x100 ![] bcast_S_S100x100 (constant S_ .f32 0x40000000#32))
      (Host.dotGeneral (φ₂ := .f32) dot_S100x256_S256x100_S100x100_1_0_0_1_n_n none x (transpose S256x100 [1, 0] x transposes_S100x256_S256x100_1_0))))
    (broadcastInDim S100x100 ![] bcast_S_S100x100 (constant S_ .f32 0x00000000#32))

/-- The affinities, of the squared distances. -/
def affinity (D : FVec Ideal S100x100 .f32) : FVec Ideal S100x100 .f32 :=
  mulf (Host.exp (Host.divf (Host.negf D) (broadcastInDim S100x100 ![] bcast_S_S100x100 (constant S_ .f32 0x3F0760BD#32))))
    (uitofp .f32 (cmpf .ole (Host.sqrt D) (broadcastInDim S100x100 ![] bcast_S_S100x100 (constant S_ .f32 0x3F3A29C7#32))))

/-- One over the root of each degree, of the affinities. -/
def scale (W : FVec Ideal S100x100 .f32) : FVec Ideal S100 .f32 :=
  Host.divf (broadcastInDim S100 ![] bcast_S_S100 (constant S_ .f32 0x3F800000#32))
    (Host.sqrt (maximumf (Host.reduceAdd W (constant S_ .f32 0x00000000#32) reducesTo_S100x100_S100_d1 h_S_)
      (broadcastInDim S100 ![] bcast_S_S100 (constant S_ .f32 0x2B8CBCCC#32))))

/-- The identity as the reference writes it. -/
def eye : FVec Ideal S100x100 .f32 :=
  uitofp .f32 (cmpi .eq (addi (iotaInDim S100x100 32 0) (broadcastInDim S100x100 ![] bcast_S_S100x100 (constantI S_ 32 0#32))) (iotaInDim S100x100 32 1))

/-- The scaled Laplacian, of the affinities and the scales. -/
def laplacian (W : FVec Ideal S100x100 .f32) (d : FVec Ideal S100 .f32) : FVec Ideal S100x100 .f32 :=
  mulf (subf eye
    (mulf (mulf (broadcastInDim S100x100 ![0, 1] bcast_S100x1_S100x100_0_1 (broadcastInDim S100x1 ![0] bcast_S100_S100x1_0 d)) W)
      (broadcastInDim S100x100 ![0, 1] bcast_S1x100_S100x100_0_1 (broadcastInDim S1x100 ![1] bcast_S100_S1x100_1 d))))
    (broadcastInDim S100x100 ![] bcast_S_S100x100 (constant S_ .f32 0x40F20C64#32))

theorem uitofp_true : FloatOps.uitofp (F := Ideal) .f32 1#1 = (1 : EReal) := by
  show (((1#1 : BitVec 1).toNat : ℝ) : EReal) = 1
  simp

theorem uitofp_false : FloatOps.uitofp (F := Ideal) .f32 0#1 = (0 : EReal) := by
  show (((0#1 : BitVec 1).toNat : ℝ) : EReal) = 0
  simp

theorem eye_unit : eye = unit := by
  funext i
  obtain ⟨a, b, rfl⟩ : ∃ a b, i = ix2 a b := ⟨i 0, i 1, (ix2_eta i).symm⟩
  rw [unit_apply]
  show FloatOps.uitofp (F := Ideal) .f32 (IntOp.cmpi .eq (BitVec.ofNat 32 a.val + 0#32) (BitVec.ofNat 32 b.val)) = _
  rw [BitVec.add_zero, word_eq a.isLt b.isLt]
  by_cases h : a.val = b.val
  · rw [decide_eq_true h, if_pos h]; exact uitofp_true
  · rw [decide_eq_false h, if_neg h]; exact uitofp_false

/-! ## The constants -/

/-- The square of the radius, -/
theorem width_real : ∃ c : ℝ, 0 < c ∧ Ideal.ofBits .f32 0x3F0760BD#32 = (c : EReal) := by
  refine ⟨8872125 / 16777216, by norm_num, ?_⟩
  simp [Ideal.ofBits, Ideal.ieee, -EReal.coe_mul]
  try norm_num

/-- the floor under the degrees, -/
theorem floor_real : ∃ e : ℝ, 0 < e ∧ e ≤ 1 ∧ Ideal.ofBits .f32 0x2B8CBCCC#32 = (e : EReal) := by
  refine ⟨2305843 / 2305843009213693952, by norm_num, by norm_num, ?_⟩
  simp [Ideal.ofBits, Ideal.ieee, -EReal.coe_mul]
  try norm_num

/-- and the factor of the Laplacian are positive numbers. -/
theorem factor_real : ∃ k : ℝ, 0 < k ∧ Ideal.ofBits .f32 0x40F20C64#32 = (k : EReal) := by
  refine ⟨3965721 / 524288, by norm_num, ?_⟩
  simp [Ideal.ofBits, Ideal.ieee, -EReal.coe_mul]
  try norm_num

/-! ## The squared distances -/

/-- The squared distance of a row from itself is zero, whatever the row, -/
theorem distSq_diag (x : FVec Ideal S100x256 .f32) (a : Fin 100) : distSq x (ix2 a a) = 0 := by
  have h2 : ∀ s : EReal, max (s + s - Ideal.ofBits .f32 0x40000000#32 * s) 0 = 0 := Cert.KernelIdeal.Hand.add_self_sub
  pointwise [distSq, dot_S100x256_S256x100_S100x100_1_0_0_1_n_n]
  exact h2 _

/-- no squared distance is negative, -/
theorem distSq_nonneg (x : FVec Ideal S100x256 .f32) (a b : Fin 100) : 0 ≤ distSq x (ix2 a b) := by
  pointwise [distSq, dot_S100x256_S256x100_S100x100_1_0_0_1_n_n]
  exact le_max_right _ _

/-- and the squared distance is the same from both sides. -/
theorem distSq_symm (x : FVec Ideal S100x256 .f32) (a b : Fin 100) : distSq x (ix2 a b) = distSq x (ix2 b a) := by
  pointwise [distSq, dot_S100x256_S256x100_S100x100_1_0_0_1_n_n]
  have h : ∀ s t u v : EReal, u = v → max (s + t - Ideal.ofBits .f32 0x40000000#32 * u) 0 = max (t + s - Ideal.ofBits .f32 0x40000000#32 * v) 0 := by
    intro s t u v e
    rw [e, add_comm]
  exact h _ _ _ _ (Finset.sum_congr rfl fun k _ => mul_comm _ _)

/-- None of the first ten rows is within the radius of another row. -/
theorem far (x : FVec Ideal S100x256 .f32) (W1 : FVec Ideal S512x10 .f32) (b1 : FVec Ideal S512 .f32) (W2 : FVec Ideal S10x512 .f32)
    (b2 : FVec Ideal S10 .f32) (h : Cert.Pre_first_rows_far_apart.fn x W1 b1 W2 b2 = fun _ => 1#1) (a b : Fin 100) (ha : a.val < 10) (hab : ¬ a = b) :
    ¬ Ideal.sqrt (distSq x (ix2 a b)) ≤ Ideal.ofBits .f32 0x3F3A29C7#32 := by
  have e : Host.reduce IntOp.andi
      (ori (cmpf .ogt (extractStridedSlice Cert.Pre_first_rows_far_apart.S10x100 ![0, 0] (Host.sqrt (distSq x)) Cert.Pre_first_rows_far_apart.Gen.slices_S100x100_S10x100_0_0)
          (broadcastInDim Cert.Pre_first_rows_far_apart.S10x100 ![] Cert.Pre_first_rows_far_apart.Gen.bcast_S_S10x100 (constant S_ .f32 0x3F3A29C7#32)))
        (cmpi .eq (addi (iotaInDim Cert.Pre_first_rows_far_apart.S10x100 32 0)
          (broadcastInDim Cert.Pre_first_rows_far_apart.S10x100 ![] Cert.Pre_first_rows_far_apart.Gen.bcast_S_S10x100 (constantI S_ 32 0#32)))
          (iotaInDim Cert.Pre_first_rows_far_apart.S10x100 32 1)))
      (constantI S_ 1 1#1) Cert.Pre_first_rows_far_apart.Gen.reducesTo_S10x100_S_d0_1 h_S_ (fun d => d.elim0) = 1#1 := by
    have e := congrFun h (fun d => d.elim0)
    unfold Cert.Pre_first_rows_far_apart.fn Cert.Pre_first_rows_far_apart.fn_part1 at e
    exact e
  haveI : Subsingleton S_.Idx := ⟨fun i j => funext fun d => d.elim0⟩
  have e' := Host.reduce_andi_all _ _ _ _ _ e (ix2 ⟨a.val, ha⟩ b)
  have hs : extractStridedSlice Cert.Pre_first_rows_far_apart.S10x100 ![0, 0] (Host.sqrt (distSq x))
      Cert.Pre_first_rows_far_apart.Gen.slices_S100x100_S10x100_0_0 (ix2 ⟨a.val, ha⟩ b) = Ideal.sqrt (distSq x (ix2 a b)) := by
    pointwise []
  have e'' : IntOp.ori (Ideal.cmp .ogt (extractStridedSlice Cert.Pre_first_rows_far_apart.S10x100 ![0, 0] (Host.sqrt (distSq x))
      Cert.Pre_first_rows_far_apart.Gen.slices_S100x100_S10x100_0_0 (ix2 ⟨a.val, ha⟩ b)) (Ideal.ofBits .f32 0x3F3A29C7#32))
      (IntOp.cmpi .eq (BitVec.ofNat 32 a.val + 0#32) (BitVec.ofNat 32 b.val)) = 1#1 := e'
  rw [hs, BitVec.add_zero, word_eq a.isLt b.isLt, decide_eq_false fun e => hab (Fin.ext e)] at e''
  intro hle
  have hc : Ideal.cmp .ogt (Ideal.sqrt (distSq x (ix2 a b))) (Ideal.ofBits .f32 0x3F3A29C7#32) = 0#1 := by
    unfold Ideal.cmp
    simp [not_lt.mpr hle]
  rw [hc] at e''
  exact absurd e'' (by decide)

/-! ## The affinities -/

/-- The affinity of two rows, of their squared distance. -/
def near (d : EReal) : EReal := Ideal.exp (Ideal.div (-d) (Ideal.ofBits .f32 0x3F0760BD#32))
  * FloatOps.uitofp (F := Ideal) .f32 (Ideal.cmp .ole (Ideal.sqrt d) (Ideal.ofBits .f32 0x3F3A29C7#32))

/-- It is a real number, not negative, -/
theorem near_real (d : EReal) (hd : 0 ≤ d) : ∃ r : ℝ, 0 ≤ r ∧ near d = (r : EReal) := by
  obtain ⟨c, hc, hc'⟩ := width_real
  have hu : ∀ w : BitVec 1, FloatOps.uitofp (F := Ideal) .f32 w = (((w.toNat : ℝ) : ℝ) : EReal) := fun w => rfl
  unfold near
  rw [hc', hu]
  induction d using EReal.rec with
  | bot => exact absurd hd (by simp)
  | top =>
    refine ⟨0, le_rfl, ?_⟩
    have h : Ideal.div (-(⊤ : EReal)) (c : EReal) = ⊥ := by
      unfold Ideal.div
      rw [if_neg (by exact_mod_cast hc.ne'), EReal.neg_top, ← EReal.coe_inv, EReal.bot_mul_coe_of_pos (inv_pos.2 hc)]
    rw [h, Ideal.exp_bot, zero_mul, EReal.coe_zero]
  | coe x =>
    refine ⟨Real.exp (-x / c) * ((Ideal.cmp .ole (Ideal.sqrt (x : EReal)) (Ideal.ofBits .f32 0x3F3A29C7#32)).toNat : ℝ), mul_nonneg (Real.exp_pos _).le (Nat.cast_nonneg _), ?_⟩
    rw [← EReal.coe_neg, div_real _ _ hc.ne', Ideal.exp_coe, ← EReal.coe_mul]

/-- one at distance zero, -/
theorem near_zero : near 0 = 1 := by
  have hp : (0 : EReal) ≤ Ideal.ofBits .f32 0x3F3A29C7#32 := by
    simp [Ideal.ofBits, Ideal.ieee, -EReal.coe_mul]
    try norm_num
  have hn : Ideal.ofBits .f32 0x3F0760BD#32 ≠ 0 := by
    simp [Ideal.ofBits, Ideal.ieee, -EReal.coe_mul]
    try norm_num
  have hs : Ideal.sqrt 0 = 0 := by
    rw [← EReal.coe_zero, Ideal.sqrt_coe]; simp
  have he : Ideal.exp 0 = 1 := by
    rw [← EReal.coe_zero, Ideal.exp_coe]; simp
  have hc : Ideal.cmp .ole 0 (Ideal.ofBits .f32 0x3F3A29C7#32) = 1#1 := by
    unfold Ideal.cmp
    simp [hp]
  unfold near
  rw [hs, neg_zero, hc]
  unfold Ideal.div
  rw [if_neg hn, zero_mul, he, one_mul]
  exact uitofp_true

/-- and zero beyond the radius. -/
theorem near_far (d : EReal) (h : ¬ Ideal.sqrt d ≤ Ideal.ofBits .f32 0x3F3A29C7#32) : near d = 0 := by
  have hc : Ideal.cmp .ole (Ideal.sqrt d) (Ideal.ofBits .f32 0x3F3A29C7#32) = 0#1 := by
    unfold Ideal.cmp
    simp [h]
  unfold near
  rw [hc]
  exact (congrArg _ uitofp_false).trans (mul_zero _)

/-- What the affinities are: real, not negative, symmetric, one on the diagonal, zero between one of the first ten rows and another row. -/
structure Affine (w : Square) : Prop where
  nonneg : ∀ i j, 0 ≤ w i j
  symm : ∀ i j, w i j = w j i
  diag : ∀ i, w i i = 1
  apart : ∀ i j : Fin 100, i.val < 10 → ¬ i = j → w i j = 0

theorem affinity_real (D : FVec Ideal S100x100 .f32) (h0 : ∀ a, D (ix2 a a) = 0) (hn : ∀ a b, 0 ≤ D (ix2 a b)) (hs : ∀ a b, D (ix2 a b) = D (ix2 b a))
    (hfar : ∀ a b : Fin 100, a.val < 10 → ¬ a = b → ¬ Ideal.sqrt (D (ix2 a b)) ≤ Ideal.ofBits .f32 0x3F3A29C7#32) :
    ∃ w : Square, affinity D = lift w ∧ Affine w := by
  choose w hw0 hw using fun a b => near_real _ (hn a b)
  refine ⟨w, ?_, hw0, fun i j => ?_, fun i => ?_, fun i j hi hij => ?_⟩
  · funext i
    obtain ⟨a, b, rfl⟩ : ∃ a b, i = ix2 a b := ⟨i 0, i 1, (ix2_eta i).symm⟩
    exact hw a b
  · exact_mod_cast (hw i j).symm.trans ((congrArg near (hs i j)).trans (hw j i))
  · have h := (hw i i).symm
    rw [h0, near_zero] at h
    exact_mod_cast h
  · have h := (hw i j).symm
    rw [near_far _ (hfar i j hi hij)] at h
    exact_mod_cast h

/-! ## The Laplacian -/

/-- The scale of a row, of its degree. -/
def invRoot (e : ℝ) (w : Square) : Fin 100 → ℝ := fun i => 1 / Real.sqrt (max (∑ j, w i j) e)

theorem scale_real (e : ℝ) (he : 0 < e) (he' : Ideal.ofBits .f32 0x2B8CBCCC#32 = (e : EReal)) (w : Square) :
    scale (lift w) = fun i => ((invRoot e w (i 0) : ℝ) : EReal) := by
  funext i
  obtain ⟨a, rfl⟩ : ∃ a, i = ix1 a := ⟨i 0, (ix1_eta i).symm⟩
  have hpos : 0 < max (∑ j, w a j) e := lt_max_of_lt_right he
  have hsum : (∑ k : Fin 100, lift w (ix2 a k)) = ((∑ j, w a j : ℝ) : EReal) := lift_sum Finset.univ (w a)
  refine Eq.trans (b := Ideal.div (Ideal.ofBits .f32 0x3F800000#32) (Ideal.sqrt (max (∑ k : Fin 100, lift w (ix2 a k)) (Ideal.ofBits .f32 0x2B8CBCCC#32)))) ?_ ?_
  · pointwise [scale]
    try rw [ofBits_one]
  · rw [hsum, he', ofBits_one, ← EReal.coe_one, ← EReal.coe_strictMono.monotone.map_max, sqrt_real _ hpos.le, div_real _ _ (Real.sqrt_pos.2 hpos).ne']
    rfl

/-- The scaled Laplacian, of the affinities and the scales. -/
def lap (k : ℝ) (w : Square) (d : Fin 100 → ℝ) : Square := fun i j => ((if i = j then 1 else 0) - d i * w i j * d j) * k

theorem laplacian_real (k : ℝ) (hk : Ideal.ofBits .f32 0x40F20C64#32 = (k : EReal)) (w : Square) (d : Fin 100 → ℝ) :
    laplacian (lift w) (fun i => ((d (i 0) : ℝ) : EReal)) = lift (lap k w d) := by
  funext i
  obtain ⟨a, b, rfl⟩ : ∃ a b, i = ix2 a b := ⟨i 0, i 1, (ix2_eta i).symm⟩
  unfold laplacian
  rw [eye_unit]
  show (unit (ix2 a b) - ((d a : ℝ) : EReal) * ((w a b : ℝ) : EReal) * ((d b : ℝ) : EReal)) * Ideal.ofBits .f32 0x40F20C64#32 = _
  have hu : unit (ix2 a b) = (((if a = b then 1 else 0 : ℝ) : ℝ) : EReal) := by
    rw [unit_apply]
    by_cases h : a = b
    · subst h; simp
    · have : ¬ a.val = b.val := fun e => h (Fin.ext e)
      simp [h, this]
  rw [hu, hk, ← EReal.coe_mul, ← EReal.coe_mul, ← EReal.coe_sub, ← EReal.coe_mul]
  rfl

/-- The quadratic form of a scaled Laplacian is nowhere negative. -/
theorem form_nonneg (k : ℝ) (hk : 0 < k) (w : Square) (hw : Affine w) (d : Fin 100 → ℝ) (hd : ∀ i, d i * d i * ∑ j, w i j ≤ 1) (v : Fin 100 → ℝ) :
    0 ≤ ∑ i, v i * ∑ j, lap k w d i j * v j := by
  have h1 : ∑ i, v i * ∑ j, lap k w d i j * v j = k * (∑ i, v i * v i - ∑ i, ∑ j, w i j * ((d i * v i) * (d j * v j))) := by
    rw [mul_sub, Finset.mul_sum, Finset.mul_sum, ← Finset.sum_sub_distrib]
    refine Finset.sum_congr rfl fun i _ => ?_
    have hi : ∑ j, lap k w d i j * v j = k * v i - ∑ j, k * (w i j * (d i * (d j * v j))) := by
      have : ∀ j, lap k w d i j * v j = (if i = j then k * v j else 0) - k * (w i j * (d i * (d j * v j))) := by
        intro j
        unfold lap
        split_ifs <;> ring
      rw [Finset.sum_congr rfl fun j _ => this j, Finset.sum_sub_distrib, Finset.sum_ite_eq Finset.univ i, if_pos (Finset.mem_univ i)]
    rw [hi, mul_sub, Finset.mul_sum, Finset.mul_sum]
    refine congrArg₂ (· - ·) (by ring) (Finset.sum_congr rfl fun j _ => by ring)
  have h2 : ∑ i, ∑ j, w i j * ((d i * v i) * (d j * v j)) ≤ ∑ i, ∑ j, w i j * ((d i * v i) * (d i * v i)) := by
    have hs : ∑ i, ∑ j, w i j * ((d j * v j) * (d j * v j)) = ∑ i, ∑ j, w i j * ((d i * v i) * (d i * v i)) := by
      rw [Finset.sum_comm]
      exact Finset.sum_congr rfl fun i _ => Finset.sum_congr rfl fun j _ => by rw [hw.symm]
    have hle : ∑ i, ∑ j, (w i j * ((d i * v i) * (d j * v j)) + w i j * ((d i * v i) * (d j * v j)))
        ≤ ∑ i, ∑ j, (w i j * ((d i * v i) * (d i * v i)) + w i j * ((d j * v j) * (d j * v j))) := by
      refine Finset.sum_le_sum fun i _ => Finset.sum_le_sum fun j _ => ?_
      nlinarith [mul_nonneg (hw.nonneg i j) (mul_self_nonneg (d i * v i - d j * v j))]
    simp only [Finset.sum_add_distrib] at hle
    rw [hs] at hle
    linarith
  have h3 : ∑ i, ∑ j, w i j * ((d i * v i) * (d i * v i)) ≤ ∑ i, v i * v i := by
    refine Finset.sum_le_sum fun i _ => ?_
    rw [← Finset.sum_mul]
    nlinarith [mul_nonneg (sub_nonneg.2 (hd i)) (mul_self_nonneg (v i))]
  rw [h1]
  exact mul_nonneg hk.le (by linarith)

/-- What the loop starts from has what a trip keeps. -/
theorem lap_good (k e : ℝ) (hk : 0 < k) (he : 0 < e) (he1 : e ≤ 1) (w : Square) (hw : Affine w) : Good (lap k w (invRoot e w)) := by
  have hdd : ∀ i, invRoot e w i * invRoot e w i = 1 / max (∑ j, w i j) e := by
    intro i
    unfold invRoot
    rw [div_mul_div_comm, one_mul, Real.mul_self_sqrt (he.le.trans (le_max_right _ _))]
  refine ⟨form_nonneg k hk w hw _ fun i => ?_, fun i j hi => ?_⟩
  · rw [hdd, one_div, inv_mul_le_iff₀ (lt_max_of_lt_right he), mul_one]
    exact le_max_left _ _
  · have hdeg : ∑ j, w i j = 1 := by
      rw [Finset.sum_eq_single i (fun b _ hb => hw.apart i b hi fun e => hb e.symm) (fun h => absurd (Finset.mem_univ i) h), hw.diag]
    have hd1 : invRoot e w i = 1 := by
      unfold invRoot
      rw [hdeg, max_eq_left he1, Real.sqrt_one, div_one]
    unfold lap
    by_cases hij : i = j
    · subst hij
      rw [if_pos rfl, hd1, hw.diag]
      norm_num
    · rw [if_neg hij, if_neg fun e => hij e.symm, hw.symm j i, hw.apart i j hi hij]
      constructor <;> ring

/-- The identity has the first ten columns of the identity. -/
theorem unit_keeps : Keeps unit := fun a b _ => unit_apply a b

variable (m : (ℓ : Loc nD τ sig) → Buf (Elt Ideal) ℓ)

/-- The loop starts from the identity, -/
theorem entry_unit (c : Dev nD) : entryContents preI m c (Proc.devRef .tc main_v50_3) = unit := by
  simp only [entryContents, afterL_cons, afterL_nil]
  after_reads_simp
  exact eye_unit

/-- and from the scaled Laplacian of the affinities. -/
theorem entry_laplacian (c : Dev nD) : entryContents preI m c (Proc.devRef .tc main_v50_2)
    = laplacian (affinity (distSq (m (c.tc.loc main_arg0)))) (scale (affinity (distSq (m (c.tc.loc main_arg0))))) := by
  simp only [entryContents, afterL_cons, afterL_nil]
  after_reads_simp
  rfl

end Cert.ReferenceIdeal.Hand

end
-- ==== Proof.RefValue.lean ====
/-
  The result of the reference when the first ten rows are far from all others.

  Its loop starts from a matrix whose first ten rows and columns are zero and whose quadratic form is nowhere negative, and from the identity;
  every trip keeps that and the first ten columns of the identity, so the result is the network on those columns.
-/
module

public import proofs.«01_k».proof.Proof.RefTail
public import proofs.«01_k».proof.Proof.RefEntry

@[expose] public section

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Value
open Idealize.SL Idealize.SL.Sem

variable (m : (ℓ : Loc nD τ sig) → Buf (Elt Ideal) ℓ) (ρ : Dev nD → PrngReg)

/-- The condition the claim is made under, at a device. -/
def Far (c : Dev nD) : Prop :=
  Cert.Pre_first_rows_far_apart.fn (F := Ideal) (m (c.tc.loc main_arg0)) (m (c.tc.loc main_arg1)) (m (c.tc.loc main_arg2)) (m (c.tc.loc main_arg3)) (m (c.tc.loc main_arg4))
    = fun _ => 1#1

/-- Under it the loop starts from a matrix that is real, has zeros in the first ten rows and columns and no negative form. -/
theorem entry_good (c : Dev nD) (h : Far m c) : ∃ B, entryContents preI m c (Proc.devRef .tc main_v50_2) = lift B ∧ Good B := by
  obtain ⟨e, he, he1, he'⟩ := floor_real
  obtain ⟨k, hk, hk'⟩ := factor_real
  obtain ⟨w, hw, hw'⟩ := affinity_real (distSq (m (c.tc.loc main_arg0))) (distSq_diag _) (distSq_nonneg _) (distSq_symm _)
    (fun a b ha hab => far _ _ _ _ _ h a b ha hab)
  refine ⟨lap k w (invRoot e w), ?_, lap_good k e hk he he1 w hw'⟩
  rw [entry_laplacian, hw, scale_real e he he', laplacian_real k hk']

/-- After any number of trips the loop still holds such a matrix, and the first ten columns of the identity. -/
theorem atK_keeps (c : Dev nD) (h : Far m c) : ∀ k, (∃ B, atK m k c (Proc.devRef .tc main_v50_2) = lift B ∧ Good B) ∧ Keeps (atK m k c (Proc.devRef .tc main_v50_3))
  | 0 => ⟨entry_good m c h, (congrArg Keeps (entry_unit m c)).mpr unit_keeps⟩
  | k + 1 => trip_keeps (atK m k c) (atK_keeps c h k)

/-- The result. -/
theorem final_eq (c : Dev nD) (h : Far m c) (K : ℕ) : finalContents condOps preI bodyI postI K m c (Proc.devRef .tc main_v84)
    = fun i => network (m (c.tc.loc main_arg1)) (m (c.tc.loc main_arg2)) (m (c.tc.loc main_arg3)) (m (c.tc.loc main_arg4)) (i 0) (i 1) := by
  have ht := tail_eq (atK m K c) (atK_keeps m c h K)
  rw [atK_arg1, atK_arg2, atK_arg3, atK_arg4] at ht
  exact ht

/-- The run of the reference. -/
theorem value (h : ∀ c, Far m c) : θ_run (defs (F := Ideal)) (onTc (τ := τ) (main (F := Ideal))) ⟨m, fun _ => 0, ρ⟩
    (fun r => ∀ c : Dev nD,
      r.2.mem ((c.tc : Thread nD τ).loc main_v84)
        = (fun i => network (m (c.tc.loc main_arg1)) (m (c.tc.loc main_arg2)) (m (c.tc.loc main_arg3)) (m (c.tc.loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_fold m ρ) fun r hr c =>
    ⟨(hr c main_v84 rfl).trans (final_eq m c (h c) _), (hr c main_arg0 rfl).trans (final_arg0 m c _), (hr c main_arg1 rfl).trans (final_arg1 m c _),
      (hr c main_arg2 rfl).trans (final_arg2 m c _), (hr c main_arg3 rfl).trans (final_arg3 m c _),
      (hr c main_arg4 rfl).trans (final_arg4 m c _)⟩

end Cert.ReferenceIdeal.Hand

end
-- ==== Proof.Agree.lean ====
/-
  The result of the kernel's program and that of the reference are the same array.
-/
module

public import proofs.«01_k».proof.Proof.KernelValue
public import proofs.«01_k».proof.Proof.RefValue

@[expose] public section

noncomputable section

namespace Cert.KernelIdeal.Hand

open Idealize.ShloMosaic Idealize.ShloMosaic.TcCoe Idealize.ShloMosaic.StableHlo
open Cert.KernelIdeal Cert.KernelIdeal.Gen
open Idealize.SL Idealize.SL.Sem

variable (m : (ℓ : Loc nD τ sig) → Buf (Elt Ideal) ℓ) (ρ : Dev nD → PrngReg)

/-- The host operation after the launch reads the output array. -/
theorem tail_read (c : Dev nD) : Pipeline.afterTail₀ cfgs (dats m) 0 (V0 m) [hostOps1] c main_v3
    = transpose S100x10 [1, 0] ((dats m 0 c).arrAt 0 cfg0.N : FVec Ideal S10x100 .f32) transposes_S10x100_S100x10_1_0 := by
  unfold Pipeline.afterTail₀
  have h : Pipeline.withArrays spec0 c (V0 m c) (fun w => (dats m 0 c).arrAt w cfg0.N) (Proc.devRef .tc main_v2) = (dats m 0 c).arrAt 0 cfg0.N :=
    Pipeline.withArrays_arr spec0 (fun _ _ _ => Subsingleton.elim _ _) c (V0 m c) (fun w => (dats m 0 c).arrAt w cfg0.N) 0
  refine Eq.trans (b := transpose S100x10 [1, 0] (Pipeline.withArrays spec0 c (V0 m c) (fun w => (dats m 0 c).arrAt w cfg0.N) (Proc.devRef .tc main_v2)
    : FVec Ideal S10x100 .f32) transposes_S10x100_S100x10_1_0) ?_ (by rw [h])
  simp only [List.flatten_cons, List.flatten_nil, List.append_nil]
  after_reads_simp

/-- What the kernel's program leaves in its result: the transpose of what its launch leaves. -/
theorem value : θ_run (defs (F := Ideal)) (onTc (τ := τ) (main (F := Ideal))) ⟨m, fun _ => 0, ρ⟩
    (fun r => ∀ c : Dev nD,
      r.2.mem ((c.tc : Thread nD τ).loc main_v3)
        = transpose S100x10 [1, 0] ((dats m 0 c).arrAt 0 cfg0.N : FVec Ideal S10x100 .f32) transposes_S10x100_S100x10_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ) (unchanged m ρ)) fun r hr c =>
    ⟨((hr.1 c).2 main_v3 (Pipeline.mem_restRefs_of main_v3 (by decide) (by decide))).trans (tail_read m c), hr.2 c⟩

/-- The two networks are one function: the kernel's takes its biases as rows, multiplies from the other side and is transposed. -/
theorem networks_agree (W1 : FVec Ideal S512x10 .f32) (b1 : FVec Ideal S512 .f32) (W2 : FVec Ideal S10x512 .f32) (b2 : FVec Ideal S10 .f32) :
    transpose S100x10 [1, 0] ((fun i => network W1 (shapeCast S1x512 b1 shapeCasts_S512_S1x512) W2 (shapeCast S1x10 b2 shapeCasts_S10_S1x10) (i 0) (i 1))
        : FVec Ideal S10x100 .f32) transposes_S10x100_S100x10_1_0
      = fun i => Cert.ReferenceIdeal.Hand.network W1 b1 W2 b2 (i 0) (i 1) := by
  funext i
  obtain ⟨n, o, rfl⟩ : ∃ n o, i = ix2 n o := ⟨i 0, i 1, (ix2_eta i).symm⟩
  have h1 : ∀ h : Fin 512, (shapeCast S1x512 (b1 : FVec Ideal S512 .f32) shapeCasts_S512_S1x512) (ix2 0 h) = b1 (ix1 h) := by
    intro h
    pointwise []
  have h2 : (shapeCast S1x10 (b2 : FVec Ideal S10 .f32) shapeCasts_S10_S1x10) (ix2 0 o) = b2 (ix1 o) := by
    pointwise []
  show (∑ h : Fin 512, W2 (ix2 o h) * max ((∑ d : Fin 10, oneHot n d * W1 (ix2 h d))
      + (shapeCast S1x512 (b1 : FVec Ideal S512 .f32) shapeCasts_S512_S1x512) (ix2 0 h)) 0)
      + (shapeCast S1x10 (b2 : FVec Ideal S10 .f32) shapeCasts_S10_S1x10) (ix2 0 o)
    = (∑ h : Fin 512, max ((∑ d : Fin 10, oneHot n d * W1 (ix2 h d)) + b1 (ix1 h)) 0 * W2 (ix2 o h)) + b2 (ix1 o)
  rw [h2]
  refine congrArg (· + _) (Finset.sum_congr rfl fun h _ => ?_)
  rw [h1]
  exact mul_comm _ _

/-- It is the reference's network on the same arguments. -/
theorem result_eq (c : Dev nD) :
    transpose S100x10 [1, 0] ((dats m 0 c).arrAt 0 cfg0.N : FVec Ideal S10x100 .f32) transposes_S10x100_S100x10_1_0
      = fun i => Cert.ReferenceIdeal.Hand.network (m (c.tc.loc main_arg1)) (m (c.tc.loc main_arg2)) (m (c.tc.loc main_arg3)) (m (c.tc.loc main_arg4)) (i 0) (i 1) := by
  have e0 : V m c main_v0 = shapeCast S1x512 (m (c.tc.loc main_arg2) : FVec Ideal S512 .f32) shapeCasts_S512_S1x512 := by
    entry_read
    rfl
  have e1 : V m c main_v1 = shapeCast S1x10 (m (c.tc.loc main_arg4) : FVec Ideal S10 .f32) shapeCasts_S10_S1x10 := by
    entry_read
    rfl
  rw [array_eq, V_main_arg1, V_main_arg3, e0, e1]
  exact networks_agree _ _ _ _

end Cert.KernelIdeal.Hand

end
-- ==== Proof.lean ====
/- The proof of the certificate's claims: the frames of the two kernel programs and of the reference, the rewrites of the
   idealization, and the equality of the two results when the first ten rows are far from all others. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_first_rows_far_apart
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Where the first ten rows are far from all others, the kernel's program and the reference leave the same array. -/
theorem algebraic : Cert.algebraic_KernelIdeal_ReferenceIdeal_pre_first_rows_far_apart := by
  intro m g m' g' hpre hagree
  refine ⟨_, Cert.KernelIdeal.Hand.value m g, ?_⟩
  have hfar : ∀ c, Cert.ReferenceIdeal.Hand.Far m' c := fun c => by
    unfold Cert.ReferenceIdeal.Hand.Far
    rw [(hagree c).1, (hagree c).2.1, (hagree c).2.2.1, (hagree c).2.2.2.1, (hagree c).2.2.2.2]
    exact hpre c
  refine θ_run_mono (Cert.ReferenceIdeal.Hand.value m' g' hfar) fun r hr c => ⟨?_, (hr c).2⟩
  rw [(hr c).1, (hagree c).2.1, (hagree c).2.2.1, (hagree c).2.2.2.1, (hagree c).2.2.2.2]
  exact (Cert.KernelIdeal.Hand.result_eq m c).symm

theorem claim : Cert.Claim :=
  ⟨Cert.Kernel.Gen.facts, Cert.KernelIdeal.Gen.facts, Cert.ReferenceIdeal.Gen.facts, Cert.Pre_first_rows_far_apart.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Hand.frame m ρ,
    fun m ρ _ => Cert.ReferenceIdeal.Hand.frame m ρ,
    ⟨IdealRules.sign_bit.statement Cert.KernelIdeal.S8x128 .f32,
      IdealRules.sign_bit.statement Cert.KernelIdeal.S100x10 .f32⟩,
    algebraic⟩

end Cert.Proof

end
